-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 1024]⟩ ⟨2, ![8192, 8192]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 4096]⟩ ⟨2, ![8192, 4096]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 4096]⟩ ⟨2, ![8192, 4096]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x1024 : Shape := ⟨2, ![8192, 1024]⟩
abbrev S1024x4096 : Shape := ⟨2, ![1024, 4096]⟩
abbrev S2x1024x1024 : Shape := ⟨3, ![2, 1024, 1024]⟩
abbrev S4x1024x1024 : Shape := ⟨3, ![4, 1024, 1024]⟩
abbrev S2 : Shape := ⟨1, ![2]⟩
abbrev S_ : Shape := ⟨0, ![]⟩
abbrev S4 : Shape := ⟨1, ![4]⟩
abbrev S1 : Shape := ⟨1, ![1]⟩
abbrev S1x1024x1024 : Shape := ⟨3, ![1, 1024, 1024]⟩
abbrev S1024x1024 : Shape := ⟨2, ![1024, 1024]⟩

abbrev nBuf : Space → Nat
  | .hbm => 3
  | .vmem => 4
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S1024x4096, .f32⟩
  | .local _ .vmem, ⟨0, _⟩ => ⟨S2x1024x1024, .f32⟩
  | .local _ .vmem, ⟨1, _⟩ => ⟨S1024x4096, .f32⟩
  | .local _ .vmem, ⟨2, _⟩ => ⟨S4x1024x1024, .f32⟩
  | .local _ .vmem, ⟨3, _⟩ => ⟨S4x1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  (ofTc nBuf bufTy 5 15 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev barrier0 : Sem sig := 4

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_8 : BitVec 32 := 1#32
  let v11 : BitVec 32 := Scalar.muli v7 c1_i32_8
  let v12 : BitVec 32 := Scalar.addi c0_i32_9 v11
  v12.toNat
def k0_off1 (d0 : Dev nD) (c1_i32_11 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_10 : BitVec 32 := 8#32
  let v13 : BitVec 32 := Scalar.addi v2 c8_i32_10
  let v14 : BitVec 32 := Scalar.subi v13 c1_i32_11
  let c8_i32_12 : BitVec 32 := 8#32
  let v15 : BitVec 32 := Scalar.remsi v14 c8_i32_12
  let c1024_i32 : BitVec 32 := 1024#32
  let v16 : BitVec 32 := Scalar.muli v15 c1024_i32
  let c0_i32_17 : BitVec 32 := 0#32
  ![v16.toNat, 0]
def k0_off2 (d0 : Dev nD) (c1_i32_18 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v22 : BitVec 32 := Scalar.addi v2 c1_i32_18
  let c8_i32_19 : BitVec 32 := 8#32
  let v23 : BitVec 32 := Scalar.remsi v22 c8_i32_19
  let c1024_i32_20 : BitVec 32 := 1024#32
  let v24 : BitVec 32 := Scalar.muli v23 c1024_i32_20
  let c0_i32_25 : BitVec 32 := 0#32
  ![v24.toNat, 0]
def k0_dev3 (d0 : Dev nD) : Nat :=
  let c0_i32_48 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_47 : BitVec 32 := 1#32
  let v47 : BitVec 32 := Scalar.muli v7 c1_i32_47
  let v48 : BitVec 32 := Scalar.addi c0_i32_48 v47
  v48.toNat
def k0_dev4 (d0 : Dev nD) : Nat :=
  let c0_i32_64 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_63 : BitVec 32 := 1#32
  let v64 : BitVec 32 := Scalar.muli v5 c1_i32_63
  let v65 : BitVec 32 := Scalar.addi c0_i32_64 v64
  v65.toNat
def k0_dev5 (d0 : Dev nD) : Nat :=
  let c0_i32_82 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_81 : BitVec 32 := 1#32
  let v81 : BitVec 32 := Scalar.muli v7 c1_i32_81
  let v82 : BitVec 32 := Scalar.addi c0_i32_82 v81
  v82.toNat
def k0_dev6 (d0 : Dev nD) : Nat :=
  let c0_i32_98 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_97 : BitVec 32 := 1#32
  let v98 : BitVec 32 := Scalar.muli v5 c1_i32_97
  let v99 : BitVec 32 := Scalar.addi c0_i32_98 v98
  v99.toNat
def k0_dev7 (d0 : Dev nD) : Nat :=
  let c0_i32_158 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_157 : BitVec 32 := 1#32
  let v154 : BitVec 32 := Scalar.muli v5 c1_i32_157
  let v155 : BitVec 32 := Scalar.addi c0_i32_158 v154
  v155.toNat
def k0_dev8 (d0 : Dev nD) : Nat :=
  let c0_i32_166 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_165 : BitVec 32 := 1#32
  let v156 : BitVec 32 := Scalar.muli v7 c1_i32_165
  let v157 : BitVec 32 := Scalar.addi c0_i32_166 v156
  v157.toNat
def k0_dev9 (d0 : Dev nD) : Nat :=
  let c0_i32_209 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_208 : BitVec 32 := 1#32
  let v195 : BitVec 32 := Scalar.muli v7 c1_i32_208
  let v196 : BitVec 32 := Scalar.addi c0_i32_209 v195
  v196.toNat
def k0_dev10 (d0 : Dev nD) : Nat :=
  let c0_i32_217 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_216 : BitVec 32 := 1#32
  let v197 : BitVec 32 := Scalar.muli v5 c1_i32_216
  let v198 : BitVec 32 := Scalar.addi c0_i32_217 v197
  v198.toNat
def k0_dev11 (d0 : Dev nD) : Nat :=
  let c0_i32_255 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_254 : BitVec 32 := 1#32
  let v231 : BitVec 32 := Scalar.muli v5 c1_i32_254
  let v232 : BitVec 32 := Scalar.addi c0_i32_255 v231
  v232.toNat
def k0_dev12 (d0 : Dev nD) : Nat :=
  let c0_i32_263 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_262 : BitVec 32 := 1#32
  let v233 : BitVec 32 := Scalar.muli v7 c1_i32_262
  let v234 : BitVec 32 := Scalar.addi c0_i32_263 v233
  v234.toNat
def k0_off3 (d0 : Dev nD) (c0_i32_269 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c16_i32 : BitVec 32 := 16#32
  let v243 : BitVec 32 := Scalar.addi v2 c16_i32
  let c3_i32_268 : BitVec 32 := 3#32
  let v244 : BitVec 32 := Scalar.subi v243 c3_i32_268
  let v245 : BitVec 32 := Scalar.subi v244 c0_i32_269
  let c8_i32_270 : BitVec 32 := 8#32
  let v246 : BitVec 32 := Scalar.remsi v245 c8_i32_270
  let c1024_i32_271 : BitVec 32 := 1024#32
  let v247 : BitVec 32 := Scalar.muli v246 c1024_i32_271
  let c0_i32_276 : BitVec 32 := 0#32
  ![v247.toNat, 0]
def k0_dev13 (d0 : Dev nD) : Nat :=
  let c0_i32_310 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_309 : BitVec 32 := 1#32
  let v277 : BitVec 32 := Scalar.muli v7 c1_i32_309
  let v278 : BitVec 32 := Scalar.addi c0_i32_310 v277
  v278.toNat
def k0_dev14 (d0 : Dev nD) : Nat :=
  let c0_i32_318 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_317 : BitVec 32 := 1#32
  let v279 : BitVec 32 := Scalar.muli v5 c1_i32_317
  let v280 : BitVec 32 := Scalar.addi c0_i32_318 v279
  v280.toNat
def k0_off4 (d0 : Dev nD) (c0_i32_324 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_323 : BitVec 32 := 3#32
  let v289 : BitVec 32 := Scalar.addi v2 c3_i32_323
  let v290 : BitVec 32 := Scalar.addi v289 c0_i32_324
  let c8_i32_325 : BitVec 32 := 8#32
  let v291 : BitVec 32 := Scalar.remsi v290 c8_i32_325
  let c1024_i32_326 : BitVec 32 := 1024#32
  let v292 : BitVec 32 := Scalar.muli v291 c1024_i32_326
  let c0_i32_331 : BitVec 32 := 0#32
  ![v292.toNat, 0]
def k0_dev15 (d0 : Dev nD) : Nat :=
  let c0_i32_370 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_369 : BitVec 32 := 1#32
  let v327 : BitVec 32 := Scalar.muli v5 c1_i32_369
  let v328 : BitVec 32 := Scalar.addi c0_i32_370 v327
  v328.toNat
def k0_dev16 (d0 : Dev nD) : Nat :=
  let c0_i32_378 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_377 : BitVec 32 := 1#32
  let v329 : BitVec 32 := Scalar.muli v7 c1_i32_377
  let v330 : BitVec 32 := Scalar.addi c0_i32_378 v329
  v330.toNat
def k0_dev17 (d0 : Dev nD) : Nat :=
  let c0_i32_421 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_420 : BitVec 32 := 1#32
  let v368 : BitVec 32 := Scalar.muli v7 c1_i32_420
  let v369 : BitVec 32 := Scalar.addi c0_i32_421 v368
  v369.toNat
def k0_dev18 (d0 : Dev nD) : Nat :=
  let c0_i32_429 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_428 : BitVec 32 := 1#32
  let v370 : BitVec 32 := Scalar.muli v5 c1_i32_428
  let v371 : BitVec 32 := Scalar.addi c0_i32_429 v370
  v371.toNat
def k0_dev19 (d0 : Dev nD) : Nat :=
  let c0_i32_467 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_466 : BitVec 32 := 1#32
  let v404 : BitVec 32 := Scalar.muli v5 c1_i32_466
  let v405 : BitVec 32 := Scalar.addi c0_i32_467 v404
  v405.toNat
def k0_dev20 (d0 : Dev nD) : Nat :=
  let c0_i32_475 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_474 : BitVec 32 := 1#32
  let v406 : BitVec 32 := Scalar.muli v7 c1_i32_474
  let v407 : BitVec 32 := Scalar.addi c0_i32_475 v406
  v407.toNat
def k0_dev21 (d0 : Dev nD) : Nat :=
  let c0_i32_523 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_522 : BitVec 32 := 1#32
  let v450 : BitVec 32 := Scalar.muli v7 c1_i32_522
  let v451 : BitVec 32 := Scalar.addi c0_i32_523 v450
  v451.toNat
def k0_dev22 (d0 : Dev nD) : Nat :=
  let c0_i32_531 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_530 : BitVec 32 := 1#32
  let v452 : BitVec 32 := Scalar.muli v5 c1_i32_530
  let v453 : BitVec 32 := Scalar.addi c0_i32_531 v452
  v453.toNat
def k0_dev23 (d0 : Dev nD) : Nat :=
  let c0_i32_583 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_582 : BitVec 32 := 1#32
  let v500 : BitVec 32 := Scalar.muli v5 c1_i32_582
  let v501 : BitVec 32 := Scalar.addi c0_i32_583 v500
  v501.toNat
def k0_dev24 (d0 : Dev nD) : Nat :=
  let c0_i32_591 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_590 : BitVec 32 := 1#32
  let v502 : BitVec 32 := Scalar.muli v7 c1_i32_590
  let v503 : BitVec 32 := Scalar.addi c0_i32_591 v502
  v503.toNat
def k0_dev25 (d0 : Dev nD) : Nat :=
  let c0_i32_634 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_633 : BitVec 32 := 1#32
  let v541 : BitVec 32 := Scalar.muli v7 c1_i32_633
  let v542 : BitVec 32 := Scalar.addi c0_i32_634 v541
  v542.toNat
def k0_dev26 (d0 : Dev nD) : Nat :=
  let c0_i32_642 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_641 : BitVec 32 := 1#32
  let v543 : BitVec 32 := Scalar.muli v5 c1_i32_641
  let v544 : BitVec 32 := Scalar.addi c0_i32_642 v543
  v544.toNat
def k0_dev27 (d0 : Dev nD) : Nat :=
  let c0_i32_680 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_679 : BitVec 32 := 1#32
  let v577 : BitVec 32 := Scalar.muli v5 c1_i32_679
  let v578 : BitVec 32 := Scalar.addi c0_i32_680 v577
  v578.toNat
def k0_dev28 (d0 : Dev nD) : Nat :=
  let c0_i32_688 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_687 : BitVec 32 := 1#32
  let v579 : BitVec 32 := Scalar.muli v7 c1_i32_687
  let v580 : BitVec 32 := Scalar.addi c0_i32_688 v579
  v580.toNat
def k0_dev29 (d0 : Dev nD) : Nat :=
  let c0_i32_736 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_735 : BitVec 32 := 1#32
  let v623 : BitVec 32 := Scalar.muli v7 c1_i32_735
  let v624 : BitVec 32 := Scalar.addi c0_i32_736 v623
  v624.toNat
def k0_dev30 (d0 : Dev nD) : Nat :=
  let c0_i32_744 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_743 : BitVec 32 := 1#32
  let v625 : BitVec 32 := Scalar.muli v5 c1_i32_743
  let v626 : BitVec 32 := Scalar.addi c0_i32_744 v625
  v626.toNat
def k0_dev31 (d0 : Dev nD) : Nat :=
  let c0_i32_796 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_795 : BitVec 32 := 1#32
  let v673 : BitVec 32 := Scalar.muli v5 c1_i32_795
  let v674 : BitVec 32 := Scalar.addi c0_i32_796 v673
  v674.toNat
def k0_dev32 (d0 : Dev nD) : Nat :=
  let c0_i32_804 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_803 : BitVec 32 := 1#32
  let v675 : BitVec 32 := Scalar.muli v7 c1_i32_803
  let v676 : BitVec 32 := Scalar.addi c0_i32_804 v675
  v676.toNat
def k0_dev33 (d0 : Dev nD) : Nat :=
  let c0_i32_847 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_846 : BitVec 32 := 1#32
  let v714 : BitVec 32 := Scalar.muli v7 c1_i32_846
  let v715 : BitVec 32 := Scalar.addi c0_i32_847 v714
  v715.toNat
def k0_dev34 (d0 : Dev nD) : Nat :=
  let c0_i32_855 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_854 : BitVec 32 := 1#32
  let v716 : BitVec 32 := Scalar.muli v5 c1_i32_854
  let v717 : BitVec 32 := Scalar.addi c0_i32_855 v716
  v717.toNat
def k0_dev35 (d0 : Dev nD) : Nat :=
  let c0_i32_893 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_892 : BitVec 32 := 1#32
  let v750 : BitVec 32 := Scalar.muli v5 c1_i32_892
  let v751 : BitVec 32 := Scalar.addi c0_i32_893 v750
  v751.toNat
def k0_dev36 (d0 : Dev nD) : Nat :=
  let c0_i32_901 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_900 : BitVec 32 := 1#32
  let v752 : BitVec 32 := Scalar.muli v7 c1_i32_900
  let v753 : BitVec 32 := Scalar.addi c0_i32_901 v752
  v753.toNat
def k0_dev37 (d0 : Dev nD) : Nat :=
  let c0_i32_949 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_948 : BitVec 32 := 1#32
  let v796 : BitVec 32 := Scalar.muli v7 c1_i32_948
  let v797 : BitVec 32 := Scalar.addi c0_i32_949 v796
  v797.toNat
def k0_dev38 (d0 : Dev nD) : Nat :=
  let c0_i32_957 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_956 : BitVec 32 := 1#32
  let v798 : BitVec 32 := Scalar.muli v5 c1_i32_956
  let v799 : BitVec 32 := Scalar.addi c0_i32_957 v798
  v799.toNat
def k0_dev39 (d0 : Dev nD) : Nat :=
  let c0_i32_1009 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1008 : BitVec 32 := 1#32
  let v846 : BitVec 32 := Scalar.muli v5 c1_i32_1008
  let v847 : BitVec 32 := Scalar.addi c0_i32_1009 v846
  v847.toNat
def k0_dev40 (d0 : Dev nD) : Nat :=
  let c0_i32_1017 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1016 : BitVec 32 := 1#32
  let v848 : BitVec 32 := Scalar.muli v7 c1_i32_1016
  let v849 : BitVec 32 := Scalar.addi c0_i32_1017 v848
  v849.toNat
def k0_dev41 (d0 : Dev nD) : Nat :=
  let c0_i32_1060 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1059 : BitVec 32 := 1#32
  let v887 : BitVec 32 := Scalar.muli v7 c1_i32_1059
  let v888 : BitVec 32 := Scalar.addi c0_i32_1060 v887
  v888.toNat
def k0_dev42 (d0 : Dev nD) : Nat :=
  let c0_i32_1068 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1067 : BitVec 32 := 1#32
  let v889 : BitVec 32 := Scalar.muli v5 c1_i32_1067
  let v890 : BitVec 32 := Scalar.addi c0_i32_1068 v889
  v890.toNat
def k0_dev43 (d0 : Dev nD) : Nat :=
  let c0_i32_1106 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1105 : BitVec 32 := 1#32
  let v923 : BitVec 32 := Scalar.muli v5 c1_i32_1105
  let v924 : BitVec 32 := Scalar.addi c0_i32_1106 v923
  v924.toNat
def k0_dev44 (d0 : Dev nD) : Nat :=
  let c0_i32_1114 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1113 : BitVec 32 := 1#32
  let v925 : BitVec 32 := Scalar.muli v7 c1_i32_1113
  let v926 : BitVec 32 := Scalar.addi c0_i32_1114 v925
  v926.toNat
def k0_dev45 (d0 : Dev nD) : Nat :=
  let c0_i32_1161 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1160 : BitVec 32 := 1#32
  let v969 : BitVec 32 := Scalar.muli v7 c1_i32_1160
  let v970 : BitVec 32 := Scalar.addi c0_i32_1161 v969
  v970.toNat
def k0_dev46 (d0 : Dev nD) : Nat :=
  let c0_i32_1169 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1168 : BitVec 32 := 1#32
  let v971 : BitVec 32 := Scalar.muli v5 c1_i32_1168
  let v972 : BitVec 32 := Scalar.addi c0_i32_1169 v971
  v972.toNat
def k0_dev47 (d0 : Dev nD) : Nat :=
  let c0_i32_1221 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1220 : BitVec 32 := 1#32
  let v1019 : BitVec 32 := Scalar.muli v5 c1_i32_1220
  let v1020 : BitVec 32 := Scalar.addi c0_i32_1221 v1019
  v1020.toNat
def k0_dev48 (d0 : Dev nD) : Nat :=
  let c0_i32_1229 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1228 : BitVec 32 := 1#32
  let v1021 : BitVec 32 := Scalar.muli v7 c1_i32_1228
  let v1022 : BitVec 32 := Scalar.addi c0_i32_1229 v1021
  v1022.toNat
def k0_dev49 (d0 : Dev nD) : Nat :=
  let c0_i32_1272 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1271 : BitVec 32 := 1#32
  let v1060 : BitVec 32 := Scalar.muli v7 c1_i32_1271
  let v1061 : BitVec 32 := Scalar.addi c0_i32_1272 v1060
  v1061.toNat
def k0_dev50 (d0 : Dev nD) : Nat :=
  let c0_i32_1280 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1279 : BitVec 32 := 1#32
  let v1062 : BitVec 32 := Scalar.muli v5 c1_i32_1279
  let v1063 : BitVec 32 := Scalar.addi c0_i32_1280 v1062
  v1063.toNat
def k0_dev51 (d0 : Dev nD) : Nat :=
  let c0_i32_1318 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1317 : BitVec 32 := 1#32
  let v1096 : BitVec 32 := Scalar.muli v5 c1_i32_1317
  let v1097 : BitVec 32 := Scalar.addi c0_i32_1318 v1096
  v1097.toNat
def k0_dev52 (d0 : Dev nD) : Nat :=
  let c0_i32_1326 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1325 : BitVec 32 := 1#32
  let v1098 : BitVec 32 := Scalar.muli v7 c1_i32_1325
  let v1099 : BitVec 32 := Scalar.addi c0_i32_1326 v1098
  v1099.toNat
def k0_dev53 (d0 : Dev nD) : Nat :=
  let c0_i32_1373 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1372 : BitVec 32 := 1#32
  let v1142 : BitVec 32 := Scalar.muli v7 c1_i32_1372
  let v1143 : BitVec 32 := Scalar.addi c0_i32_1373 v1142
  v1143.toNat
def k0_dev54 (d0 : Dev nD) : Nat :=
  let c0_i32_1381 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1380 : BitVec 32 := 1#32
  let v1144 : BitVec 32 := Scalar.muli v5 c1_i32_1380
  let v1145 : BitVec 32 := Scalar.addi c0_i32_1381 v1144
  v1145.toNat
-- ==== ReferenceIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S8192x4096, .f32⟩
  | .hbm, ⟨16, _⟩ => ⟨S_, .f32⟩
  | .hbm, ⟨17, _⟩ => ⟨S8192x4096, .f32⟩
  | .hbm, ⟨18, _⟩ => ⟨S8192x4096, .f32⟩
  | .hbm, ⟨19, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Program.lean ====
/-
The kernel's body written again by its structure: four rings, each a column quarter of the result, walked in the
order 0, 2, 1, 3, over a prologue, six like steps and a last step. Everything that the printed text spells out per
ring and per step is a definition with the ring `r` and the step `s` as parameters; `body_eq` says that the printed
body is this text.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Rings

open Cert.KernelIdeal Cert.KernelIdeal.Gen
open Idealize.ShloMosaic Idealize.ShloMosaic.TcCoe
open Idealize.SL Idealize.SL.Sem

variable {F : FTy → Type} [FloatOps F]

/-! ## Neighbours -/

/-- The device before `c` on the circle of eight, as the kernel computes it. -/
def lft (c : Dev nD) : Dev nD := ⟨k0_dev1 c, k0_dev1_lt c⟩
/-- The device after `c` on the circle of eight, as the kernel computes it. -/
def rgt (c : Dev nD) : Dev nD := ⟨k0_dev2 c, k0_dev2_lt c⟩
/-- Whom device `c` sends to on ring `r`: rings 0 and 1 go right, rings 2 and 3 left. -/
def dn : Fin 4 → Dev nD → Dev nD
  | 0 => rgt | 1 => rgt | 2 => lft | 3 => lft
/-- Who sends to device `c` on ring `r`. -/
def up : Fin 4 → Dev nD → Dev nD
  | 0 => lft | 1 => lft | 2 => rgt | 3 => rgt
/-- Which of the two slots for rows of `x` ring `r` reads: the two rings of one direction share one. -/
def half : Fin 4 → Fin 2
  | 0 => 0 | 1 => 0 | 2 => 1 | 3 => 1

/-! ## Buffers, slots and semaphores -/

abbrev xH : Memref sig .tc .hbm S8192x1024 .f32 := Memref.whole main_arg0
abbrev wH : Memref sig .tc .hbm S1024x4096 .f32 := Memref.whole main_arg1
abbrev oH : Memref sig .tc .hbm S1024x4096 .f32 := Memref.whole main_v1
abbrev xM : Memref sig .tc .vmem S2x1024x1024 .f32 := Memref.whole cc0_scratch0
abbrev wM : Memref sig .tc .vmem S1024x4096 .f32 := Memref.whole cc0_scratch1
abbrev sM : Memref sig .tc .vmem S4x1024x1024 .f32 := Memref.whole cc0_scratch2
abbrev rM : Memref sig .tc .vmem S4x1024x1024 .f32 := Memref.whole cc0_scratch3

/-- A slot of a stack of four lies within it. -/
theorem inb_slot4 (r : Fin 4) : ∀ a, (![r.val, 0, 0] : Fin 3 → Nat) a + S1x1024x1024.size a ≤ S4x1024x1024.size a := by
  revert r; decide
/-- A slot of a stack of two lies within it. -/
theorem inb_slot2 (h : Fin 2) : ∀ a, (![h.val, 0, 0] : Fin 3 → Nat) a + S1x1024x1024.size a ≤ S2x1024x1024.size a := by
  revert h; decide
/-- A column quarter lies within the array. -/
theorem inb_col (r : Fin 4) : ∀ a, (![0, 1024 * r.val] : Fin 2 → Nat) a + S1024x1024.size a ≤ S1024x4096.size a := by
  revert r; decide
/-- One of four semaphores lies within its array. -/
theorem inb_sem4 (r : Fin 4) : ∀ a, (![r.val] : Fin 1 → Nat) a + S1.size a ≤ S4.size a := by
  revert r; decide
/-- One of two semaphores lies within its array. -/
theorem inb_sem2 (h : Fin 2) : ∀ a, (![h.val] : Fin 1 → Nat) a + S1.size a ≤ S2.size a := by
  revert h; decide

/-- Slot `r` of the send and receive buffers, slot `h` of the buffer for rows of `x`, column quarter `r` of `w` and of
    the result, as rectangles. -/
abbrev slot4 (r : Fin 4) : Rect S4x1024x1024 := Rect.unit (s := S4x1024x1024) ![r.val, 0, 0] S1x1024x1024.size (inb_slot4 r)
abbrev slot2 (h : Fin 2) : Rect S2x1024x1024 := Rect.unit (s := S2x1024x1024) ![h.val, 0, 0] S1x1024x1024.size (inb_slot2 h)
abbrev cols (r : Fin 4) : Rect S1024x4096 := Rect.unit (s := S1024x4096) ![0, 1024 * r.val] S1024x1024.size (inb_col r)

/-- The slots as memrefs of one matrix each: sent from, received into, the rows of `x`, the result's quarter. -/
abbrev sV (r : Fin 4) : Memref sig .tc .vmem S1024x1024 .f32 :=
  (sM.slice (slot4 r) (fun _ => rfl)).squeeze S1024x1024 squeezes_S1x1024x1024_S1024x1024
abbrev rV (r : Fin 4) : Memref sig .tc .vmem S1024x1024 .f32 :=
  (rM.slice (slot4 r) (fun _ => rfl)).squeeze S1024x1024 squeezes_S1x1024x1024_S1024x1024
abbrev xV (h : Fin 2) : Memref sig .tc .vmem S1024x1024 .f32 :=
  (xM.slice (slot2 h) (fun _ => rfl)).squeeze S1024x1024 squeezes_S1x1024x1024_S1024x1024
abbrev oV (r : Fin 4) : Memref sig .tc .hbm S1024x1024 .f32 := oH.slice (cols r) (fun _ => rfl)

/-- Where a block of 1024 rows of `x` may start. -/
abbrev RowsFit (o : Fin 2 → Nat) : Prop := ∀ a, o a + S1024x1024.size a ≤ S8192x1024.size a
/-- The block of 1024 rows of the device's `x` at offset `o`. -/
abbrev xC (o : Fin 2 → Nat) (ho : RowsFit o) : Memref sig .tc .hbm S1024x1024 .f32 :=
  xH.slice (Rect.unit (s := S8192x1024) o S1024x1024.size ho) (fun _ => rfl)

abbrev barS : Sem sig := (SemArray.scalar (sig.barrier 0 rfl) : Sems sig S_).sem
abbrev wS : DmaSem sig := (cc0_scratch5 : DmaSems sig S_).sem
abbrev ldS (h : Fin 2) : DmaSem sig :=
  (((cc0_scratch4 : DmaSems sig S2).slice (Rect.unit (s := S2) ![h.val] S1.size (inb_sem2 h))).squeeze S_ squeezes_S1_S_).sem
abbrev stS (r : Fin 4) : DmaSem sig :=
  (((cc0_scratch6 : DmaSems sig S4).slice (Rect.unit (s := S4) ![r.val] S1.size (inb_sem4 r))).squeeze S_ squeezes_S1_S_).sem
abbrev sndS (r : Fin 4) : DmaSem sig :=
  (((cc0_scratch7 : DmaSems sig S4).slice (Rect.unit (s := S4) ![r.val] S1.size (inb_sem4 r))).squeeze S_ squeezes_S1_S_).sem
abbrev rcvS (r : Fin 4) : DmaSem sig :=
  (((cc0_scratch8 : DmaSems sig S4).slice (Rect.unit (s := S4) ![r.val] S1.size (inb_sem4 r))).squeeze S_ squeezes_S1_S_).sem
/-- Ring `r`'s credit semaphore. -/
def crS : Fin 4 → Sem sig
  | 0 => (cc0_scratch9 : Sems sig S_).sem | 1 => (cc0_scratch10 : Sems sig S_).sem
  | 2 => (cc0_scratch11 : Sems sig S_).sem | 3 => (cc0_scratch12 : Sems sig S_).sem

/-! ## What is stored -/

/-- The first product, as stored: rows of `x` times a column quarter of `w`. -/
def pay0 (a : Vec F S1x1024x1024 .f32) (b : Vec F S1024x1024 .f32) : FVec F S1x1024x1024 .f32 := k0_pay1 a b
/-- A later product added to what was received. -/
def payAdd (a : Vec F S1x1024x1024 .f32) (b : Vec F S1024x1024 .f32) (p : Vec F S1x1024x1024 .f32) : FVec F S1x1024x1024 .f32 := k0_pay6 a b p
/-- The last product added to what was received, and the activation of the sum. -/
def payOut (a : Vec F S1x1024x1024 .f32) (b : Vec F S1024x1024 .f32) (p : Vec F S1x1024x1024 .f32) : FVec F S1x1024x1024 .f32 := k0_pay43 (k0_pay42 a b p)

/-! ## The blocks -/

abbrev PE (F : FTy → Type) [FloatOps F] := TpuEff nD τ sig (Elt F) Λ₀ .tc

/-- Start a copy of rows of `x` into slot `h`; wait for it. -/
def ldStart (h : Fin 2) (o : Fin 2 → Nat) (ho : RowsFit o) : Prog (PE F) PUnit :=
  Prog.lift (.enqueueDma (xC o ho) (.here (xV h)) (.dma (ldS h)) (View.wordExact_bits rfl) ((View.wordExact_bits rfl).reshape _ _) ⟨Or.inl rfl, trivial⟩)
def ldWait (h : Fin 2) (o : Fin 2 → Nat) (ho : RowsFit o) : Prog (PE F) PUnit :=
  Prog.lift (.waitDma2 (ldS h) (xC o ho) (xV h) (View.wordExact_bits rfl) ((View.wordExact_bits rfl).reshape _ _))

/-- The first product of ring `r` into its send slot. -/
def gemm0 (r : Fin 4) : Prog (PE F) PUnit := do
  let a : Vec F S1x1024x1024 .f32 ← Prog.lift (.load xM (slot2 (half r)).toLoadRect (View.loadsAt_vmem h_S1x1024x1024))
  let b : Vec F S1024x1024 .f32 ← Prog.lift (.load wM (cols r).toLoadRect (View.loadsAt_vmem h_S1024x1024))
  let _ : Vec F S1x1024x1024 .f32 ← Prog.lift (.load sM (slot4 r).toLoadRect (View.loadsAt_vmem h_S1x1024x1024))
  Prog.lift (.store sM (slot4 r) (pay0 a b) Finset.univ (View.stores_vmem_bits_univ h_S1x1024x1024 rfl) (.inl rfl))

/-- A later product of ring `r`, with `pay` of the rows, the columns and what was received stored into the send slot. -/
def gemm (pay : Vec F S1x1024x1024 .f32 → Vec F S1024x1024 .f32 → Vec F S1x1024x1024 .f32 → FVec F S1x1024x1024 .f32) (r : Fin 4) : Prog (PE F) PUnit := do
  let a : Vec F S1x1024x1024 .f32 ← Prog.lift (.load xM (slot2 (half r)).toLoadRect (View.loadsAt_vmem h_S1x1024x1024))
  let b : Vec F S1024x1024 .f32 ← Prog.lift (.load wM (cols r).toLoadRect (View.loadsAt_vmem h_S1024x1024))
  let p : Vec F S1x1024x1024 .f32 ← Prog.lift (.load rM (slot4 r).toLoadRect (View.loadsAt_vmem h_S1x1024x1024))
  let _ : Vec F S1x1024x1024 .f32 ← Prog.lift (.load sM (slot4 r).toLoadRect (View.loadsAt_vmem h_S1x1024x1024))
  Prog.lift (.store sM (slot4 r) (pay a b p) Finset.univ (View.stores_vmem_bits_univ h_S1x1024x1024 rfl) (.inl rfl))

/-- Send ring `r`'s partial sum to device `n`. -/
def send (r : Fin 4) (n : Dev nD) : Prog (PE F) PUnit :=
  Prog.lift (.enqueueDma (sV r) (.remote (Dev.tc n) (rV r) (.dma (sndS r))) (.dma (rcvS r)) ((View.wordExact_bits rfl).reshape _ _) ((View.wordExact_bits rfl).reshape _ _) ⟨⟨rfl, Or.inl rfl⟩, trivial⟩)
/-- Wait until the own send has been read out, then until the neighbour's has arrived. -/
def sendWait (r : Fin 4) : Prog (PE F) PUnit :=
  Prog.lift (.waitDma2 (sndS r) (rV r) (sV r) ((View.wordExact_bits rfl).reshape _ _) ((View.wordExact_bits rfl).reshape _ _))
def recvWait (r : Fin 4) : Prog (PE F) PUnit :=
  Prog.lift (.waitDma2 (rcvS r) (sV r) (rV r) ((View.wordExact_bits rfl).reshape _ _) ((View.wordExact_bits rfl).reshape _ _))
/-- Tell device `n` that ring `r`'s receive slot is free again, then wait to be told the same, then send. -/
def pass (r : Fin 4) (c : Dev nD) : Prog (PE F) PUnit := do
  semSignalWord (up r c) (crS r) 1#32
  semWaitWord (crS r) 1#32
  send r (dn r c)
/-- Copy ring `r`'s finished quarter to the result; wait for it. -/
def stStart (r : Fin 4) : Prog (PE F) PUnit :=
  Prog.lift (.enqueueDma (sV r) (.here (oV r)) (.dma (stS r)) ((View.wordExact_bits rfl).reshape _ _) (View.wordExact_bits rfl) ⟨Or.inl rfl, trivial⟩)
def stWait (r : Fin 4) : Prog (PE F) PUnit :=
  Prog.lift (.waitDma2 (stS r) (sV r) (oV r) ((View.wordExact_bits rfl).reshape _ _) (View.wordExact_bits rfl))

/-- The rows that a step waits for, one block per slot. -/
structure Rows where
  o0 : Fin 2 → Nat
  h0 : RowsFit o0
  o1 : Fin 2 → Nat
  h1 : RowsFit o1

/-- The rows loaded in the prologue for the first products (`j = 0`) and for the first step (`j = 1`). -/
def rowsPro (c : Dev nD) (j : Fin 2) : Rows :=
  ⟨k0_off1 c (BitVec.ofNat 32 (1 + j.val)), k0_off1_inb c j, k0_off2 c (BitVec.ofNat 32 (1 + j.val)), k0_off2_inb c j⟩
/-- The rows loaded during step `s`. -/
def rowsStep (c : Dev nD) (s : Fin 6) : Rows :=
  ⟨k0_off3 c (BitVec.ofNat 32 s.val), k0_off3_inb c s, k0_off4 c (BitVec.ofNat 32 s.val), k0_off4_inb c s⟩

/-- The entry handshake and the copy of `w`, the first rows, the first products and sends, the next rows. -/
def prologue (c : Dev nD) : Prog (PE F) PUnit := do
  semSignalWord (lft c) barS 1#32
  semSignalWord (rgt c) barS 1#32
  semWaitWord barS 2#32
  Prog.lift (.enqueueDma wH (.here wM) (.dma wS) (Memref.isWhole_whole _).wordExact (Memref.isWhole_whole _).wordExact ⟨Or.inl rfl, trivial⟩)
  ldStart 0 (rowsPro c 0).o0 (rowsPro c 0).h0
  ldStart 1 (rowsPro c 0).o1 (rowsPro c 0).h1
  Prog.lift (.waitDma2 wS wH wM (Memref.isWhole_whole _).wordExact (Memref.isWhole_whole _).wordExact)
  ldWait 0 (rowsPro c 0).o0 (rowsPro c 0).h0
  ldWait 1 (rowsPro c 0).o1 (rowsPro c 0).h1
  gemm0 0
  send 0 (dn 0 c)
  gemm0 2
  send 2 (dn 2 c)
  gemm0 1
  send 1 (dn 1 c)
  gemm0 3
  send 3 (dn 3 c)
  ldStart 0 (rowsPro c 1).o0 (rowsPro c 1).h0
  ldStart 1 (rowsPro c 1).o1 (rowsPro c 1).h1

/-- One ring's part of a step, its rows at hand. -/
def ringStep (c : Dev nD) (r : Fin 4) : Prog (PE F) PUnit := do
  gemm payAdd r
  pass r c

/-- One of the six like steps: `R` the rows it waits for, `R'` the rows it asks for. -/
def step (c : Dev nD) (R R' : Rows) : Prog (PE F) PUnit := do
  sendWait 0
  recvWait 0
  ldWait 0 R.o0 R.h0
  ringStep c 0
  sendWait 2
  recvWait 2
  ldWait 1 R.o1 R.h1
  ringStep c 2
  sendWait 1
  recvWait 1
  ringStep c 1
  ldStart 0 R'.o0 R'.h0
  sendWait 3
  recvWait 3
  ringStep c 3
  ldStart 1 R'.o1 R'.h1

/-- One ring's part of the last step. -/
def ringLast (r : Fin 4) : Prog (PE F) PUnit := do
  gemm payOut r
  stStart r

/-- The last step and the wait for the four copies of the result. -/
def lastStep (R : Rows) : Prog (PE F) PUnit := do
  sendWait 0
  recvWait 0
  ldWait 0 R.o0 R.h0
  ringLast 0
  sendWait 2
  recvWait 2
  ldWait 1 R.o1 R.h1
  ringLast 2
  sendWait 1
  recvWait 1
  ringLast 1
  sendWait 3
  recvWait 3
  ringLast 3
  stWait 0
  stWait 1
  stWait 2
  stWait 3

/-- The body by its structure. -/
def body : Prog (PE F) PUnit := do
  let c : Dev nD ← Prog.lift .deviceId
  prologue c
  step c (rowsPro c 1) (rowsStep c 0)
  step c (rowsStep c 0) (rowsStep c 1)
  step c (rowsStep c 1) (rowsStep c 2)
  step c (rowsStep c 2) (rowsStep c 3)
  step c (rowsStep c 3) (rowsStep c 4)
  step c (rowsStep c 4) (rowsStep c 5)
  lastStep (rowsStep c 5)

set_option maxRecDepth 65536 in
set_option maxHeartbeats 4000000 in
/-- The printed body is the body by its structure. -/
theorem body_eq (t : Fin cfg0.N) : bodyAt0 (F := F) t = body := by
  unfold bodyAt0
  rfl

end Cert.Rings

end
-- ==== Proof.Slots.lean ====
/-
What lies in the kernel's buffers: the partial sums as values, and the points-to assertions of the slots that the rings
pass around, with how a slot's contents read.
-/
module

public import proofs.«01_k».proof.Proof.Program
public import Idealize.ShloMosaic.Lib.Pipeline.Launch
public import Idealize.ShloMosaic.Lib.Pipeline.Kit
public import Idealize.ShloMosaic.Lib.Tactic

@[expose] public section

noncomputable section

namespace Cert.Rings

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources: the pipeline's component and the rings' (duties named by `Bool`), indices the rounds -/

abbrev UB : Type := URounds (GSem nD τ sig) Bool
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

variable (m : (ℓ : Loc nD τ sig) → Buf (Elt F) ℓ)

/-! ## Values -/

/-- The rows of `x` a device multiplies at stage `t` of the rings, `t = 0, …, 7`. -/
def rowsAt (c : Dev nD) : ℕ → Rows
  | 0 => rowsPro c 0
  | 1 => rowsPro c 1
  | t + 2 => rowsStep c (Fin.ofNat 6 t)

/-- A matrix as the only one in a stack. -/
def stack {e : EltTy} (v : S1024x1024.Idx → Elt F e) : S1x1024x1024.Idx → Elt F e :=
  shapeCast S1x1024x1024 v shapeCasts_S1024x1024_S1x1024x1024

/-- The device's rows at offset `o` of its `x`. -/
def rowsOf (c : Dev nD) (o : Fin 2 → Nat) (ho : RowsFit o) : S1024x1024.Idx → Elt F .f32 :=
  (xC o ho).view.read (Elt F) (m ((c : Thread nD τ).loc main_arg0))
/-- The rows for slot `h` at stage `t`. -/
def xAt (c : Dev nD) (t : ℕ) : Fin 2 → (S1x1024x1024.Idx → Elt F .f32)
  | 0 => stack (rowsOf m c (rowsAt c t).o0 (rowsAt c t).h0)
  | 1 => stack (rowsOf m c (rowsAt c t).o1 (rowsAt c t).h1)
/-- Column quarter `r` of the device's `w`. -/
def wAt (c : Dev nD) (r : Fin 4) : S1024x1024.Idx → Elt F .f32 :=
  wM.view.readAt (Elt F) (cols r).toLoadRect (m ((c : Thread nD τ).loc main_arg1))

/-- The partial sum that device `c` sends on ring `r` at stage `t`: its product added to what came from upstream. -/
def part (r : Fin 4) : ℕ → Dev nD → (S1x1024x1024.Idx → Elt F .f32)
  | 0, c => pay0 (xAt m c 0 (half r)) (wAt m c r)
  | t + 1, c => payAdd (xAt m c (t + 1) (half r)) (wAt m c r) (part r t (up r c))
/-- Ring `r`'s quarter of device `c`'s result. -/
def res (r : Fin 4) (c : Dev nD) : S1x1024x1024.Idx → Elt F .f32 :=
  payOut (xAt m c 7 (half r)) (wAt m c r) (part m r 6 (up r c))

/-! ## Slots' contents -/

/-- What slot `r` of the send buffer, slot `r` of the receive buffer and slot `h` of the rows' buffer hold. -/
def sGet (r : Fin 4) (f : (cc0_scratch2 : Ref sig .tc).ty.Contents (Elt F)) : S1x1024x1024.Idx → Elt F .f32 :=
  sM.view.readAt (Elt F) (slot4 r).toLoadRect f
def rGet (r : Fin 4) (f : (cc0_scratch3 : Ref sig .tc).ty.Contents (Elt F)) : S1x1024x1024.Idx → Elt F .f32 :=
  rM.view.readAt (Elt F) (slot4 r).toLoadRect f
def xGet (h : Fin 2) (f : (cc0_scratch0 : Ref sig .tc).ty.Contents (Elt F)) : S1x1024x1024.Idx → Elt F .f32 :=
  xM.view.readAt (Elt F) (slot2 h).toLoadRect f
/-- What column quarter `r` of the result holds. -/
def oGet (r : Fin 4) (f : (main_v1 : Ref sig .tc).ty.Contents (Elt F)) : S1024x1024.Idx → Elt F .f32 :=
  (oV r).view.read (Elt F) f

/-- Stacks of one with the same matrix are the same. -/
theorem unstack_inj {e : EltTy} {v v' : S1x1024x1024.Idx → Elt F e}
    (h : shapeCast S1024x1024 v squeezes_S1x1024x1024_S1024x1024.numel_eq = shapeCast S1024x1024 v' squeezes_S1x1024x1024_S1024x1024.numel_eq) : v = v' := by
  funext i
  have := congrFun h ((Shape.reshapeEquiv squeezes_S1x1024x1024_S1024x1024.numel_eq).symm i)
  simpa [shapeCast] using this

/-- A matrix out of a stack of one. -/
def flat {e : EltTy} (v : S1x1024x1024.Idx → Elt F e) : S1024x1024.Idx → Elt F e :=
  shapeCast S1024x1024 v squeezes_S1x1024x1024_S1024x1024.numel_eq

/-- The matrix out of the stack made of it. -/
theorem stack_flat {e : EltTy} (v : S1024x1024.Idx → Elt F e) : flat (stack v) = v := by
  funext i; simp only [flat, stack, shapeCast, Shape.reshapeEquiv_reshapeEquiv, Shape.reshapeEquiv_self]

/-- Storing a stack of one into a slot of the send buffer: the slot holds it. -/
theorem sGet_store (r : Fin 4) (f : (cc0_scratch2 : Ref sig .tc).ty.Contents (Elt F)) (v : S1x1024x1024.Idx → Elt F .f32) :
    sGet r ((sM.access (slot4 r)).write (Elt F) f v Finset.univ) = v := by
  unfold sGet; rw [View.readAt_rect]; exact View.read_write_univ (v := sM.access (slot4 r)) f v
/-- A transfer between two slots carries the contents. -/
theorem rGet_send (r : Fin 4) (fd : (cc0_scratch3 : Ref sig .tc).ty.Contents (Elt F)) (fs : (cc0_scratch2 : Ref sig .tc).ty.Contents (Elt F)) :
    rGet r ((rV r).view.write (Elt F) fd ((sV r).view.read (Elt F) fs) Finset.univ) = sGet r fs :=
  unstack_inj (show (rV r).view.read (Elt F) ((rV r).view.write (Elt F) fd ((sV r).view.read (Elt F) fs) Finset.univ) = (sV r).view.read (Elt F) fs
    from View.read_write_univ _ _)
/-- A matrix copied into a slot of the rows' buffer is there as a stack of one. -/
theorem xGet_copy (h : Fin 2) (fd : (cc0_scratch0 : Ref sig .tc).ty.Contents (Elt F)) (w : S1024x1024.Idx → Elt F .f32) :
    xGet h ((xV h).view.write (Elt F) fd w Finset.univ) = stack w :=
  unstack_inj ((show (xV h).view.read (Elt F) ((xV h).view.write (Elt F) fd w Finset.univ) = w from View.read_write_univ _ _).trans (stack_flat w).symm)
/-- A slot copied to a quarter of the result is there as a matrix. -/
theorem oGet_copy (r : Fin 4) (fd : (main_v1 : Ref sig .tc).ty.Contents (Elt F)) (fs : (cc0_scratch2 : Ref sig .tc).ty.Contents (Elt F)) :
    oGet r ((oV r).view.write (Elt F) fd ((sV r).view.read (Elt F) fs) Finset.univ) = flat (sGet r fs) :=
  View.read_write_univ (v := (oV r).view) _ _

/-! ## Points-to assertions -/

/-- The elements of slot `r` of device `c`'s send buffer, of its receive buffer, of slot `h` of its rows' buffer and of
    quarter `r` of its result. -/
def sPts (c : Dev nD) (r : Fin 4) (f : (cc0_scratch2 : Ref sig .tc).ty.Contents (Elt F)) : sProp 𝕄 :=
  (sV r).view.loc (c : Thread nD τ) ↦[(sV r).view.set]{fullShare} f
def rPts (c : Dev nD) (r : Fin 4) (f : (cc0_scratch3 : Ref sig .tc).ty.Contents (Elt F)) : sProp 𝕄 :=
  (rV r).view.loc (c : Thread nD τ) ↦[(rV r).view.set]{fullShare} f
def xPts (c : Dev nD) (h : Fin 2) (f : (cc0_scratch0 : Ref sig .tc).ty.Contents (Elt F)) : sProp 𝕄 :=
  (xV h).view.loc (c : Thread nD τ) ↦[(xV h).view.set]{fullShare} f
def oPts (c : Dev nD) (r : Fin 4) (f : (main_v1 : Ref sig .tc).ty.Contents (Elt F)) : sProp 𝕄 :=
  (oV r).view.loc (c : Thread nD τ) ↦[(oV r).view.set]{fullShare} f

/-- The same with what they hold, or with anything in them. -/
def sIs (c : Dev nD) (r : Fin 4) (v : S1x1024x1024.Idx → Elt F .f32) : sProp 𝕄 := iprop(∃ f, ⌜sGet r f = v⌝ ∗ sPts c r f)
def sAny (c : Dev nD) (r : Fin 4) : sProp 𝕄 := iprop(∃ f, sPts (F := F) c r f)
def rIs (c : Dev nD) (r : Fin 4) (v : S1x1024x1024.Idx → Elt F .f32) : sProp 𝕄 := iprop(∃ f, ⌜rGet r f = v⌝ ∗ rPts c r f)
def rAny (c : Dev nD) (r : Fin 4) : sProp 𝕄 := iprop(∃ f, rPts (F := F) c r f)
def xIs (c : Dev nD) (h : Fin 2) (v : S1x1024x1024.Idx → Elt F .f32) : sProp 𝕄 := iprop(∃ f, ⌜xGet h f = v⌝ ∗ xPts c h f)
def xAny (c : Dev nD) (h : Fin 2) : sProp 𝕄 := iprop(∃ f, xPts (F := F) c h f)
def oIs (c : Dev nD) (r : Fin 4) (v : S1024x1024.Idx → Elt F .f32) : sProp 𝕄 := iprop(∃ f, ⌜oGet r f = v⌝ ∗ oPts c r f)
def oAny (c : Dev nD) (r : Fin 4) : sProp 𝕄 := iprop(∃ f, oPts (F := F) c r f)

/-- Each of the two slots for rows reads the device's `x` under one half of its share. -/
def xShare : Fin 2 → PosShare TreeShare
  | 0 => (fullShare : PosShare TreeShare).left
  | 1 => (fullShare : PosShare TreeShare).right
/-- The device's `x` under slot `h`'s half; its `w`, and the copy of it. -/
def xHbm (c : Dev nD) (h : Fin 2) : sProp 𝕄 := ((c : Thread nD τ).loc main_arg0) ↦{xShare h} m ((c : Thread nD τ).loc main_arg0)
def wHbm (c : Dev nD) : sProp 𝕄 := ((c : Thread nD τ).loc main_arg1) ↦{fullShare} m ((c : Thread nD τ).loc main_arg1)
def wPts (c : Dev nD) : sProp 𝕄 :=
  ((c : Thread nD τ).loc cc0_scratch1) ↦{fullShare} (m ((c : Thread nD τ).loc main_arg1) : (cc0_scratch1 : Ref sig .tc).ty.Contents (Elt F))
def wAny (c : Dev nD) : sProp 𝕄 := iprop(∃ f : (cc0_scratch1 : Ref sig .tc).ty.Contents (Elt F), ((c : Thread nD τ).loc cc0_scratch1) ↦{fullShare} f)

section Storable
variable (c : Dev nD) (r : Fin 4) (h : Fin 2)
instance sPts_storable (f) : BI.Storable (upEmb : UEmb _ 𝕄) (sPts (F := F) c r f) := by unfold sPts; infer_instance
instance rPts_storable (f) : BI.Storable (upEmb : UEmb _ 𝕄) (rPts (F := F) c r f) := by unfold rPts; infer_instance
instance xPts_storable (f) : BI.Storable (upEmb : UEmb _ 𝕄) (xPts (F := F) c h f) := by unfold xPts; infer_instance
instance oPts_storable (f) : BI.Storable (upEmb : UEmb _ 𝕄) (oPts (F := F) c r f) := by unfold oPts; infer_instance
instance sIs_storable (v) : BI.Storable (upEmb : UEmb _ 𝕄) (sIs (F := F) c r v) := by unfold sIs; infer_instance
instance sAny_storable : BI.Storable (upEmb : UEmb _ 𝕄) (sAny (F := F) c r) := by unfold sAny; infer_instance
instance rIs_storable (v) : BI.Storable (upEmb : UEmb _ 𝕄) (rIs (F := F) c r v) := by unfold rIs; infer_instance
instance rAny_storable : BI.Storable (upEmb : UEmb _ 𝕄) (rAny (F := F) c r) := by unfold rAny; infer_instance
instance xIs_storable (v) : BI.Storable (upEmb : UEmb _ 𝕄) (xIs (F := F) c h v) := by unfold xIs; infer_instance
instance oIs_storable (v) : BI.Storable (upEmb : UEmb _ 𝕄) (oIs (F := F) c r v) := by unfold oIs; infer_instance
instance xHbm_storable : BI.Storable (upEmb : UEmb _ 𝕄) (xHbm m c h) := by unfold xHbm; infer_instance
instance wHbm_storable : BI.Storable (upEmb : UEmb _ 𝕄) (wHbm m c) := by unfold wHbm; infer_instance
instance wPts_storable : BI.Storable (upEmb : UEmb _ 𝕄) (wPts m c) := by unfold wPts; infer_instance
end Storable

/-! ## The slots cut their buffers -/

/-- Send slot `r`, as a view and as a rectangle of the buffer, has the same positions. -/
theorem sV_set (r : Fin 4) : (sV r).view.set = (sM.access (slot4 r)).set := View.set_reshape _ _
/-- The same of a receive slot. -/
theorem rV_set (r : Fin 4) : (rV r).view.set = (rM.access (slot4 r)).set := View.set_reshape _ _
/-- The same of a row slot. -/
theorem xV_set (h : Fin 2) : (xV h).view.set = (xM.access (slot2 h)).set := View.set_reshape _ _

end Cert.Rings

end
-- ==== Proof.Schedule.lean ====
/-
The protocol: the semaphore cells of the kernel, per cell and round who raises it and what comes with the units, what
each device owes at each point of its run, and the levels that order the waits.
-/
module

public import proofs.«01_k».proof.Proof.Slots
public import Mathlib.Algebra.Order.BigOperators.Group.LocallyFinite
public import Mathlib.Tactic.Abel

@[expose] public section

noncomputable section

namespace Cert.Rings

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-! ## Neighbours -/

/-- Left, then right: the device itself. -/
theorem rgt_lft (c : Dev nD) : rgt (lft c) = c := by
  apply Fin.ext; show k0_dev2 (lft c) = c.val
  rw [k0_dev2_eq]; show (k0_dev1 c + 1) % 8 = c.val
  rw [k0_dev1_eq]; have := c.isLt; show ((c.val + 7) % 8 + 1) % 8 = c.val
  have : c.val < 8 := c.isLt
  omega
/-- Right, then left: the device itself. -/
theorem lft_rgt (c : Dev nD) : lft (rgt c) = c := by
  apply Fin.ext; show k0_dev1 (rgt c) = c.val
  rw [k0_dev1_eq]; show (k0_dev2 c + 7) % 8 = c.val
  rw [k0_dev2_eq]; show ((c.val + 1) % 8 + 7) % 8 = c.val
  have : c.val < 8 := c.isLt
  omega
/-- Up the ring, then down: the device itself. -/
theorem dn_up : ∀ (r : Fin 4) (c : Dev nD), dn r (up r c) = c
  | 0, c => rgt_lft c | 1, c => rgt_lft c | 2, c => lft_rgt c | 3, c => lft_rgt c
/-- Down the ring, then up: the device itself. -/
theorem up_dn : ∀ (r : Fin 4) (c : Dev nD), up r (dn r c) = c
  | 0, c => lft_rgt c | 1, c => lft_rgt c | 2, c => rgt_lft c | 3, c => rgt_lft c

/-! ## Cells -/

/-- The kernel's semaphores: the barrier, the copy of `w`, the rows' loads per slot, the result's copies, the sends, the
    receives and the credits per ring. -/
inductive K where
  | bar | wl | ld (h : Fin 2) | st (r : Fin 4) | snd (r : Fin 4) | rcv (r : Fin 4) | cr (r : Fin 4)
  deriving DecidableEq

/-- All of them. -/
def K.all : List K :=
  [.bar, .wl, .ld 0, .ld 1, .st 0, .st 1, .st 2, .st 3, .snd 0, .snd 1, .snd 2, .snd 3, .rcv 0, .rcv 1, .rcv 2, .rcv 3, .cr 0, .cr 1, .cr 2, .cr 3]
/-- The list has every kind. -/
theorem K.mem_all (k : K) : k ∈ K.all := by
  cases k <;> first | decide | (rename_i r; revert r; decide)
instance : Fintype K := ⟨K.all.toFinset, fun k => List.mem_toFinset.mpr (K.mem_all k)⟩

/-- The semaphore of a kind. -/
def csem : K → SemLoc sig
  | .bar => .reg barS | .wl => .dma wS | .ld h => .dma (ldS h) | .st r => .dma (stS r)
  | .snd r => .dma (sndS r) | .rcv r => .dma (rcvS r) | .cr r => .reg (crS r)

/-- Different kinds have different semaphores. -/
theorem csem_inj : Function.Injective csem := by decide

/-- The kind of a semaphore, if it is one of the kernel's. -/
def kind : SemLoc sig → Option K := Function.partialInv csem
/-- The kind of the semaphore of a kind is that kind. -/
theorem kind_csem (k : K) : kind (csem k) = some k := Function.partialInv_left csem_inj k

/-- Device `c`'s cell of a kind. -/
abbrev cell (c : Dev nD) (k : K) : GSem nD τ sig := ((c : Thread nD τ), csem k)

/-- What one block's transfer credits, and the copy of `w`. -/
@[irreducible] def N : ℕ := (rV 0).view.dmaCredit
@[irreducible] def NW : ℕ := wM.view.dmaCredit
/-- A block's transfer credits something. -/
theorem N_pos : 0 < N := by unfold N; exact View.dmaCredit_pos _ h_S1024x1024
/-- The copy of `w` credits something. -/
theorem NW_pos : 0 < NW := by
  unfold NW; exact View.dmaCredit_pos _ (by show 0 < Shape.numel S1024x4096; simp [Shape.numel])
/-- A send slot is worth one block. -/
theorem sV_N (r : Fin 4) : (sV r).view.dmaCredit = N := by unfold N; rfl
/-- A receive slot is worth one block. -/
theorem rV_N (r : Fin 4) : (rV r).view.dmaCredit = N := by unfold N; rfl
/-- A row slot is worth one block. -/
theorem xV_N (h : Fin 2) : (xV h).view.dmaCredit = N := by unfold N; rfl
/-- A quarter of the result is worth one block. -/
theorem oV_N (r : Fin 4) : (oV r).view.dmaCredit = N := by unfold N; rfl
/-- The copy of `w` is worth `NW`. -/
theorem wM_NW : wM.view.dmaCredit = NW := by unfold NW; rfl

/-! ## The schedule -/

/-- How many rounds a cell has. -/
def rounds : K → ℕ
  | .bar => 1 | .wl => 1 | .ld _ => 8 | .st _ => 1 | .snd _ => 7 | .rcv _ => 7 | .cr _ => 6
/-- Its duties in each: the barrier's both neighbours' signals, one otherwise. -/
def names : K → Finset Bool
  | .bar => Finset.univ | _ => {false}
/-- The units of a duty. -/
def units : K → ℕ
  | .bar => 1 | .cr _ => 1 | .wl => NW | _ => N

/-- Every duty has units. -/
theorem units_pos : ∀ k, 0 < units k
  | .bar => Nat.one_pos | .cr _ => Nat.one_pos | .wl => NW_pos | .ld _ => N_pos | .st _ => N_pos | .snd _ => N_pos | .rcv _ => N_pos

/-- What a duty of device `c`'s cell hands it. The barrier: the neighbour's receive slots it will send into. The copies:
    what was written and what was read. The send: the slot again. The receive: the partial sum from upstream, and that
    upstream waits for the credit. The credit: the slot downstream, and that downstream waits for the next transfer. -/
def pay (c : Dev nD) : K → ℕ → Bool → sProp 𝕄
  | .bar, _, true => iprop(rAny (F := F) (rgt c) 0 ∗ rAny (F := F) (rgt c) 1)
  | .bar, _, false => iprop(rAny (F := F) (lft c) 2 ∗ rAny (F := F) (lft c) 3)
  | .wl, _, _ => iprop(wPts m c ∗ wHbm m c)
  | .ld h, t, _ => iprop(xIs c h (xAt m c t h) ∗ xHbm m c h)
  | .st r, _, _ => iprop(oIs c r (flat (res m r c)) ∗ sAny (F := F) c r)
  | .snd r, _, _ => sAny (F := F) c r
  | .rcv r, t, _ => iprop(rIs c r (part m r t (up r c)) ∗ reached ER (cell (up r c) (.cr r)) t)
  | .cr r, t, _ => iprop(rAny (F := F) (dn r c) r ∗ reached ER (cell (dn r c) (.rcv r)) (t + 1))

/-- The schedule of all cells. -/
def Rd : Rounds.Schedule (GSem nD τ sig) Bool 𝕄 where
  duties g t := match kind g.2 with
    | some k => if t < rounds k then names k else ∅
    | none => ∅
  amount g _ _ := match kind g.2 with
    | some k => units k
    | none => 1
  payload g t d := match kind g.2 with
    | some k => pay m g.1.1 k t d
    | none => iprop(emp)
  amount_pos g _ _ _ := by
    cases kind g.2 with
    | none => exact Nat.one_pos
    | some k => exact units_pos k

instance pay_storable (c : Dev nD) (k : K) (t : ℕ) (d : Bool) : BI.Storable (upEmb : UEmb _ 𝕄) (pay m c k t d) := by
  cases k <;> cases d <;> (unfold pay; infer_instance)

instance Rd_storable (g : GSem nD τ sig) (t : ℕ) (d : Bool) : BI.Storable (upEmb : UEmb _ 𝕄) ((Rd m).payload g t d) := by
  show BI.Storable upEmb (match kind g.2 with | some k => pay m g.1.1 k t d | none => iprop(emp))
  split <;> infer_instance

section Sched
variable (c : Dev nD) (k : K)

/-- In its rounds, a cell has the duties named. -/
theorem duties_lt {t : ℕ} (h : t < rounds k) : (Rd m).duties (cell c k) t = names k := by
  dsimp only [Rd]; rw [kind_csem]; exact if_pos h
/-- After its last round, a cell has no duty. -/
theorem duties_ge (t : ℕ) (h : rounds k ≤ t) : (Rd m).duties (cell c k) t = ∅ := by
  dsimp only [Rd]; rw [kind_csem]; exact if_neg (by omega)
/-- A duty's amount is the units of its kind. -/
theorem amount_eq (t : ℕ) (d : Bool) : (Rd m).amount (cell c k) t d = units k := by
  dsimp only [Rd]; rw [kind_csem]
/-- What a duty hands over is as laid down above. -/
theorem payload_eq (t : ℕ) (d : Bool) : (Rd m).payload (cell c k) t d = pay m c k t d := by
  dsimp only [Rd]; rw [kind_csem]
/-- A round completes at the sum of the units of its duties. -/
theorem expect_eq {t : ℕ} (h : t < rounds k) : (Rd m).expect (cell c k) t = (names k).card * units k := by
  unfold Schedule.expect Schedule.amountOf
  rw [duties_lt m c k h, Finset.sum_congr rfl fun d _ => amount_eq m c k t d, Finset.sum_const, smul_eq_mul]

/-- What a round of a cell with one duty per round hands over. -/
theorem rest_one {t : ℕ} (h : t < rounds k) (h1 : names k = {false}) :
    bigSep ((Rd m).duties (cell c k) t \ ∅) (fun d => (Rd m).payload (cell c k) t d) = pay m c k t false := by
  rw [Finset.sdiff_empty, duties_lt m c k h, h1, bigSep_singleton, payload_eq]
/-- What the barrier's round hands over. -/
theorem rest_bar :
    bigSep ((Rd m).duties (cell c .bar) 0 \ ∅) (fun d => (Rd m).payload (cell c .bar) 0 d)
      = iprop(pay m c .bar 0 false ∗ pay m c .bar 0 true) := by
  rw [Finset.sdiff_empty, duties_lt m c .bar (by decide)]
  show bigSep Finset.univ _ = _
  rw [bigSep_univ_eq_bigSepL [false, true] (by decide) (by decide), bigSepL_cons_cons, bigSepL_singleton, payload_eq, payload_eq]
  rfl

end Sched

/-! ## What a device owes -/

/-- The ring worked on at place `p` of a round of rings: 0, 2, 1, 3. -/
def order : Fin 4 → Fin 4
  | 0 => 0 | 1 => 2 | 2 => 1 | 3 => 3

/-- The transfer of stage `t` at place `p`: `N` units of the receive cell downstream. -/
def oweR (c : Dev nD) (p : Fin 4) (t : ℕ) : CellTallies nD τ sig ℕ := tallyAt (cell (dn (order p) c) (.rcv (order p))) t N
/-- The credit that goes before the transfer of stage `t`: one unit upstream. The first stage has none. -/
def oweC (c : Dev nD) (p : Fin 4) : ℕ → CellTallies nD τ sig ℕ
  | 0 => 0
  | t + 1 => tallyAt (cell (up (order p) c) (.cr (order p))) t 1

/-- The places of the run, four per stage. -/
abbrev stageOf (j : ℕ) : ℕ := j / 4
abbrev placeOf (j : ℕ) : Fin 4 := Fin.ofNat 4 j

/-- What is still owed from place `j` on. -/
def oweFrom (c : Dev nD) (j : ℕ) : CellTallies nD τ sig ℕ :=
  ∑ i ∈ Finset.Ico j 28, (oweR c (placeOf i) (stageOf i) + oweC c (placeOf i) (stageOf i))

/-- After the last place nothing is owed. -/
theorem oweFrom_end (c : Dev nD) : oweFrom c 28 = 0 := by unfold oweFrom; rw [Finset.Ico_self, Finset.sum_empty]
/-- What is owed from one place on is what is owed from the next on, and what the place itself pays. -/
theorem oweFrom_succ (c : Dev nD) {j : ℕ} (h : j < 28) :
    oweFrom c j = (oweFrom c (j + 1) + oweR c (placeOf j) (stageOf j)) + oweC c (placeOf j) (stageOf j) := by
  unfold oweFrom; rw [Finset.sum_eq_sum_Ico_succ_bot h]; abel
/-- Place `p` of a stage, by its number in the run. -/
theorem place_add (t : ℕ) (p : Fin 4) : placeOf (4 * t + p.val) = p := by
  apply Fin.ext; show (4 * t + p.val) % 4 = p.val; have := p.isLt; omega
/-- The stage, by the number in the run. -/
theorem stage_add (t : ℕ) (p : Fin 4) : stageOf (4 * t + p.val) = t := by
  show (4 * t + p.val) / 4 = t; have := p.isLt; omega

/-- At place `p` of stage `t + 1`: the credit first, then the transfer. -/
theorem oweFrom_step (c : Dev nD) (p : Fin 4) {t : ℕ} (h : t < 6) :
    oweFrom c (4 * (t + 1) + p.val)
      = (oweFrom c (4 * (t + 1) + p.val + 1) + tallyAt (cell (dn (order p) c) (.rcv (order p))) (t + 1) N)
        + tallyAt (cell (up (order p) c) (.cr (order p))) t 1 := by
  rw [oweFrom_succ c (by have := p.isLt; omega), place_add, stage_add]; rfl
/-- At place `p` of the first stage: the transfer. -/
theorem oweFrom_first (c : Dev nD) (p : Fin 4) :
    oweFrom c p.val = oweFrom c (p.val + 1) + tallyAt (cell (dn (order p) c) (.rcv (order p))) 0 N := by
  have h0 : 4 * 0 + p.val = p.val := by omega
  rw [oweFrom_succ c (by have := p.isLt; omega), ← h0, place_add, stage_add]
  show _ + oweR c p 0 + 0 = _
  rw [add_zero, h0]; rfl

/-- All that a device owes at launch: the rings and its two signals to its neighbours' barriers. -/
def owe1 (c : Dev nD) : CellTallies nD τ sig ℕ := oweFrom c 0 + tallyAt (cell (rgt c) .bar) 0 1
def owe0 (c : Dev nD) : CellTallies nD τ sig ℕ := owe1 c + tallyAt (cell (lft c) .bar) 0 1

/-! ## Levels -/

/-- The place of a ring in a round of rings. -/
def place : Fin 4 → ℕ
  | 0 => 0 | 1 => 2 | 2 => 1 | 3 => 3
/-- The ring that comes at place `p` has place `p`. -/
theorem place_order (p : Fin 4) : place (order p) = p.val := by revert p; decide

/-- The indices of a cell: the rounds. -/
def L (g : GSem nD τ sig) : Finset ℕ := if g.1.2 = .tc then Finset.range 8 else ∅
/-- The level of round `t` of a cell: local copies lowest, the barrier, then by the order of the run. -/
def levK : K → ℕ → ℕ
  | .bar, _ => 1
  | .rcv r, t => 2 * (4 * t + place r) + 2
  | .cr r, t => 2 * (4 * t + place r) + 3
  | _, _ => 0
def lv (g : GSem nD τ sig) (t : ℕ) : ℕ := match kind g.2 with
  | some k => levK k t
  | none => 0
/-- The level of a device's cell is that of its kind. -/
theorem lv_cell (c : Dev nD) (k : K) (t : ℕ) : lv (cell c k) t = levK k t := by unfold lv; rw [kind_csem]
/-- Only the main core of a device has cells with rounds. -/
theorem L_of_ne (g : GSem nD τ sig) (h : g.1.2 ≠ .tc) : L g = ∅ := if_neg h
/-- Rounds below eight are indices of every cell of that core. -/
theorem mem_L (c : Dev nD) (sm : SemLoc sig) {t : ℕ} (h : t < 8) : t ∈ L ((c : Thread nD τ), sm) := by
  unfold L; rw [if_pos rfl]; exact Finset.mem_range.mpr h

/-- Something owed to a cell is owed to a device's cell at a round below eight and above level `b`. -/
def Above (b : ℕ) (O : CellTallies nD τ sig ℕ) : Prop :=
  ∀ g t, 0 < O g t → ∃ c k, g = cell c k ∧ t < 8 ∧ b < levK k t

/-- Owing nothing lies above every level. -/
theorem above_zero (b : ℕ) : Above b 0 := fun g t h => absurd h (Nat.lt_irrefl 0)
/-- Two debts above a level are above it together. -/
theorem above_add {b : ℕ} {O O' : CellTallies nD τ sig ℕ} (h : Above b O) (h' : Above b O') : Above b (O + O') := fun g t hg => by
  rw [Pi.add_apply, Finsupp.add_apply] at hg
  rcases Nat.eq_zero_or_pos (O g t) with h0 | h0
  · exact h' g t (by omega)
  · exact h g t h0
/-- One debt lies above a level if the level of its cell and round does. -/
theorem above_tally {b : ℕ} (c : Dev nD) (k : K) {t n : ℕ} (h : t < 8) (hb : b < levK k t) : Above b (tallyAt (cell c k) t n) := fun g i hg => by
  rw [tallyAt_apply] at hg
  by_cases hc : g = cell c k ∧ i = t
  · obtain ⟨rfl, rfl⟩ := hc; exact ⟨c, k, rfl, h, hb⟩
  · rw [if_neg hc] at hg; exact absurd hg (Nat.lt_irrefl 0)
/-- A sum of debts above a level is above it. -/
theorem above_sum {b : ℕ} (s : Finset ℕ) (f : ℕ → CellTallies nD τ sig ℕ) (h : ∀ i ∈ s, Above b (f i)) : Above b (∑ i ∈ s, f i) := by
  induction s using Finset.induction_on with
  | empty => rw [Finset.sum_empty]; exact above_zero b
  | insert i s hi ih =>
    rw [Finset.sum_insert hi]
    exact above_add (h i (Finset.mem_insert_self _ _)) (ih fun j hj => h j (Finset.mem_insert_of_mem hj))

/-- What is owed from place `j` on is above every level below the first transfer and the first credit from there. -/
theorem above_oweFrom (c : Dev nD) {b j : ℕ} (h1 : b < 2 * j + 2) (h2 : b + 5 < 2 * max j 4) : Above b (oweFrom c j) := by
  refine above_sum _ _ fun i hi => ?_
  obtain ⟨hi1, hi2⟩ := Finset.mem_Ico.mp hi
  have hp : place (order (placeOf i)) = i % 4 := place_order _
  refine above_add (above_tally _ _ (by show i / 4 < 8; omega) ?_) ?_
  · show b < 2 * (4 * (i / 4) + place (order (placeOf i))) + 2
    rw [hp]; omega
  · rcases Nat.lt_or_ge i 4 with h4 | h4
    · rw [show stageOf i = 0 from by show i / 4 = 0; omega]; exact above_zero b
    · obtain ⟨t, ht⟩ : ∃ t, stageOf i = t + 1 := ⟨i / 4 - 1, by show i / 4 = _; omega⟩
      have ht' : i / 4 = t + 1 := ht
      rw [ht]
      refine above_tally _ _ (by omega) ?_
      show b < 2 * (4 * t + place (order (placeOf i))) + 3
      rw [hp]; omega

/-- A device may wait for round `t` of a cell when all it owes is above. -/
theorem mayWait (c : Dev nD) (k : K) {t : ℕ} (ht : t < 8) {O : CellTallies nD τ sig ℕ} (h : Above (levK k t) O) :
    (levAts L lv : sProp 𝕄) ⊢ MayWait (c : Thread nD τ) (csem k) t O :=
  MayOwe.of_cut (L := L) (lev := lv) (levK k t)
    (fun p hp => by rw [Finset.mem_singleton.mp hp]; exact mem_L c _ ht)
    (fun g i hg => by obtain ⟨c', k', rfl, h8, -⟩ := h g i hg; exact mem_L c' _ h8)
    (fun p hp => by rw [Finset.mem_singleton.mp hp]; exact (lv_cell c k t).le)
    (fun g i hg => by obtain ⟨c', k', rfl, -, hb⟩ := h g i hg; rw [lv_cell]; exact hb)

end Cert.Rings

end
-- ==== Proof.Rules.lean ====
/-
One rule per kind of operation of the kernel, at its cells: waits, signals, copies and transfers, each stating what the
device hands in and what it gets, for every ring, slot, round and step at once.
-/
module

public import proofs.«01_k».proof.Proof.Schedule

@[expose] public section

noncomputable section

namespace Cert.Rings

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

abbrev 𝒱₀ : Variants := Variants.none

/-- A piece of device `c`'s program, run to `Q`. -/
abbrev run {α : Type} (c : Dev nD) (b : Prog (PE F) α) (Q : α → sProp 𝕄) : sProp 𝕄 :=
  wp frame (wpE (defs₀ (F := F)) 𝒱₀ (c : Thread nD τ) none) Set.univ b Q

/-! ## What every device knows -/

/-- The cells' invariants, the levels, and that every cell is at its first round at least. -/
def Ctx (κ : Dev nD × K → ℕ) : sProp 𝕄 :=
  iprop(bigSep Finset.univ (fun x : Dev nD × K => cellInv ER (Rd m) (κ x) (cell x.1 x.2)) ∗ levAts L lv
    ∗ bigSep Finset.univ (fun x : Dev nD × K => reached ER (cell x.1 x.2) 0))

instance ctx_persistent (κ : Dev nD × K → ℕ) : BI.Persistent (Ctx m κ) := by unfold Ctx; infer_instance

/-- The shared knowledge has every cell's invariant. -/
theorem ctx_inv (κ : Dev nD × K → ℕ) (c : Dev nD) (k : K) : Ctx m κ ⊢ cellInv ER (Rd m) (κ (c, k)) (cell c k) :=
  sep_elim_left.trans (bigSep_elim (i := (c, k)) (Finset.mem_univ _))
/-- It has the levels. -/
theorem ctx_lev (κ : Dev nD × K → ℕ) : Ctx m κ ⊢ levAts L lv := sep_elim_right.trans sep_elim_left
/-- It has that every cell has reached its first round. -/
theorem ctx_reached (κ : Dev nD × K → ℕ) (c : Dev nD) (k : K) : Ctx m κ ⊢ reached ER (cell c k) 0 :=
  sep_elim_right.trans (sep_elim_right.trans (bigSep_elim (i := (c, k)) (Finset.mem_univ _)))

/-- What a device owes, whatever it has waited for. -/
def owing (c : Dev nD) (O : CellTallies nD τ sig ℕ) : sProp 𝕄 := iprop(∃ W, owes (c : Thread nD τ) O W)

/-- The owner's place at a cell: at the start of round `t`. -/
abbrev at_ (c : Dev nD) (k : K) (t : ℕ) : sProp 𝕄 := atPos ER (cell c k) t ∅ 0
/-- The right to wait for round `t` of a cell. -/
abbrev credit (c : Dev nD) (k : K) (t n : ℕ) : sProp 𝕄 := cred (tallyAt (cell c k) t n)
/-- The right to pay a cell's only duty of round `t`. -/
abbrev tok (c : Dev nD) (k : K) (t : ℕ) : sProp 𝕄 := dutyTok ER (cell c k) t false
/-- That a cell has come to round `t`. -/
abbrev seen (c : Dev nD) (k : K) (t : ℕ) : sProp 𝕄 := reached ER (cell c k) t

variable (κ : Dev nD × K → ℕ) (c : Dev nD)

/-! ## Waits -/

/-- A wait for a round of a cell with one duty per round: what the duty hands over, and the next round begins. -/
theorem wait_one (k : K) {t : ℕ} (ht : t < rounds k) (h1 : names k = {false}) {w : PE F PUnit} {n : ℕ} (hn : n = units k)
    (hw : ∀ X : PUnit → sProp 𝕄, wpE (defs₀ (F := F)) 𝒱₀ (c : Thread nD τ) none Set.univ w X = waitSpec (c : Thread nD τ) Set.univ (csem k) n X)
    (h8 : t < 8) {O : CellTallies nD τ sig ℕ} (hO : Above (levK k t) O) {Q : PUnit → sProp 𝕄} :
    iprop(Ctx m κ ∗ at_ (F := F) c k t ∗ credit (F := F) c k t (units k) ∗ owing (F := F) c O)
      ⊢ iprop(((at_ (F := F) c k (t + 1) ∗ seen (F := F) c k (t + 1) ∗ pay m c k t false ∗ owing (F := F) c O) -∗ Q ⟨⟩)
          -∗ run c (.op w .ret) Q) := by
  subst hn
  unfold owing
  iintro ⟨#HC, Hat, Hcr, %W, HO⟩ Hk
  iapply (Rounds.wp_wait_rest_token 𝒱₀ ER (Rd m) (c : Thread nD τ) none (κ := κ (c, k)) hw (Set.mem_univ _) t
    (O := O) (W := W) (R := t) (m := 0) (T := ∅) (by rw [expect_eq m c k ht, h1, Finset.card_singleton, Nat.zero_add, Nat.one_mul])) $$ [Hat Hcr HO]
  · isplitr; · iapply (ctx_inv m κ c k); iexact HC
    isplitl [Hcr]; · iexact Hcr
    isplitl [HO]; · iexact HO
    isplitr; · iapply (mayWait c k h8 hO); iapply (ctx_lev m κ); iexact HC
    iexact Hat
  iintro ⟨HO, Hat, Hr, Hp⟩
  ihave Hp := (Entails.of_eq (rest_one m c k ht h1)) $$ Hp
  rw [wp_ret]; imodintro
  iapply Hk
  isplitl [Hat]; · iexact Hat
  isplitl [Hr]; · iexact Hr
  isplitl [Hp]; · iexact Hp
  iexists _; iexact HO

/-- The wait for the own send of ring `r`: the slot again. -/
theorem t_sendWait (r : Fin 4) {t : ℕ} (ht : t < 7) {O : CellTallies nD τ sig ℕ} (hO : Above 0 O) {Q : PUnit → sProp 𝕄} :
    iprop(Ctx m κ ∗ at_ (F := F) c (.snd r) t ∗ credit (F := F) c (.snd r) t N ∗ owing (F := F) c O)
      ⊢ iprop(((at_ (F := F) c (.snd r) (t + 1) ∗ seen (F := F) c (.snd r) (t + 1) ∗ sAny (F := F) c r ∗ owing (F := F) c O) -∗ Q ⟨⟩)
          -∗ run c (sendWait r) Q) :=
  wait_one m κ c (.snd r) (t := t) ht rfl (sV_N r) (wpE_waitDma2_eq 𝒱₀ (c : Thread nD τ) none Set.univ) (by omega) hO
/-- The wait for ring `r`'s transfer of stage `t`: the upstream device's partial sum, and that it waits for the credit. -/
theorem t_recvWait (r : Fin 4) {t : ℕ} (ht : t < 7) {O : CellTallies nD τ sig ℕ} (hO : Above (2 * (4 * t + place r) + 2) O) {Q : PUnit → sProp 𝕄} :
    iprop(Ctx m κ ∗ at_ (F := F) c (.rcv r) t ∗ credit (F := F) c (.rcv r) t N ∗ owing (F := F) c O)
      ⊢ iprop(((at_ (F := F) c (.rcv r) (t + 1) ∗ seen (F := F) c (.rcv r) (t + 1)
            ∗ (rIs c r (part m r t (up r c)) ∗ seen (F := F) (up r c) (.cr r) t) ∗ owing (F := F) c O) -∗ Q ⟨⟩)
          -∗ run c (recvWait r) Q) :=
  wait_one m κ c (.rcv r) (t := t) ht rfl (rV_N r) (wpE_waitDma2_eq 𝒱₀ (c : Thread nD τ) none Set.univ) (by omega) hO
/-- The wait for rows: the slot with them in it, and the share of `x` again. -/
theorem t_ldWait (h : Fin 2) {t : ℕ} (ht : t < 8) (o : Fin 2 → Nat) (ho : RowsFit o) {O : CellTallies nD τ sig ℕ} (hO : Above 0 O) {Q : PUnit → sProp 𝕄} :
    iprop(Ctx m κ ∗ at_ (F := F) c (.ld h) t ∗ credit (F := F) c (.ld h) t N ∗ owing (F := F) c O)
      ⊢ iprop(((at_ (F := F) c (.ld h) (t + 1) ∗ seen (F := F) c (.ld h) (t + 1) ∗ (xIs c h (xAt m c t h) ∗ xHbm m c h) ∗ owing (F := F) c O) -∗ Q ⟨⟩)
          -∗ run c (ldWait h o ho) Q) :=
  wait_one m κ c (.ld h) (t := t) ht rfl (xV_N h) (wpE_waitDma2_eq 𝒱₀ (c : Thread nD τ) none Set.univ) ht hO
/-- The wait for a quarter of the result to be written: the quarter, and the slot again. -/
theorem t_stWait (r : Fin 4) {O : CellTallies nD τ sig ℕ} (hO : Above 0 O) {Q : PUnit → sProp 𝕄} :
    iprop(Ctx m κ ∗ at_ (F := F) c (.st r) 0 ∗ credit (F := F) c (.st r) 0 N ∗ owing (F := F) c O)
      ⊢ iprop(((at_ (F := F) c (.st r) 1 ∗ seen (F := F) c (.st r) 1 ∗ (oIs c r (flat (res m r c)) ∗ sAny (F := F) c r) ∗ owing (F := F) c O) -∗ Q ⟨⟩)
          -∗ run c (stWait r) Q) :=
  wait_one m κ c (.st r) (t := 0) Nat.one_pos rfl (oV_N r) (wpE_waitDma2_eq 𝒱₀ (c : Thread nD τ) none Set.univ) (by omega) hO
/-- The wait for the copy of `w`. -/
theorem t_wWait {O : CellTallies nD τ sig ℕ} (hO : Above 0 O) {Q : PUnit → sProp 𝕄} :
    iprop(Ctx m κ ∗ at_ (F := F) c .wl 0 ∗ credit (F := F) c .wl 0 NW ∗ owing (F := F) c O)
      ⊢ iprop(((at_ (F := F) c .wl 1 ∗ seen (F := F) c .wl 1 ∗ (wPts m c ∗ wHbm m c) ∗ owing (F := F) c O) -∗ Q ⟨⟩)
          -∗ run c (Prog.lift (.waitDma2 wS wH wM (Memref.isWhole_whole _).wordExact (Memref.isWhole_whole _).wordExact)) Q) :=
  wait_one m κ c .wl (t := 0) Nat.one_pos rfl wM_NW (wpE_waitDma2_eq 𝒱₀ (c : Thread nD τ) none Set.univ) (by omega) hO
/-- The wait for ring `r`'s credit of stage `t`: the receive slot downstream, and that downstream waits for the next. -/
theorem t_creditWait (r : Fin 4) {t : ℕ} (ht : t < 6) {O : CellTallies nD τ sig ℕ} (hO : Above (2 * (4 * t + place r) + 3) O) {Q : PUnit → sProp 𝕄} :
    iprop(Ctx m κ ∗ at_ (F := F) c (.cr r) t ∗ credit (F := F) c (.cr r) t 1 ∗ owing (F := F) c O)
      ⊢ iprop(((at_ (F := F) c (.cr r) (t + 1) ∗ seen (F := F) c (.cr r) (t + 1)
            ∗ (rAny (F := F) (dn r c) r ∗ seen (F := F) (dn r c) (.rcv r) (t + 1)) ∗ owing (F := F) c O) -∗ Q ⟨⟩)
          -∗ run c (semWaitWord (crS r) 1#32) Q) :=
  wait_one m κ c (.cr r) (t := t) ht rfl (show ((1#32 : BitVec 32).toInt).toNat = 1 by decide) (wpE_semWait_eq 𝒱₀ (c : Thread nD τ) none Set.univ) (by omega) hO

/-- The wait for both neighbours at the barrier: the four receive slots downstream. -/
theorem t_barWait {O : CellTallies nD τ sig ℕ} (hO : Above 1 O) {Q : PUnit → sProp 𝕄} :
    iprop(Ctx m κ ∗ at_ (F := F) c .bar 0 ∗ credit (F := F) c .bar 0 2 ∗ owing (F := F) c O)
      ⊢ iprop(((at_ (F := F) c .bar 1 ∗ ((rAny (F := F) (lft c) 2 ∗ rAny (F := F) (lft c) 3) ∗ (rAny (F := F) (rgt c) 0 ∗ rAny (F := F) (rgt c) 1)) ∗ owing (F := F) c O) -∗ Q ⟨⟩)
          -∗ run c (semWaitWord barS 2#32) Q) := by
  unfold owing semWaitWord
  iintro ⟨#HC, Hat, Hcr, %W, HO⟩ Hk
  iapply (Rounds.wp_wait_rest_token 𝒱₀ ER (Rd m) (c : Thread nD τ) none (κ := κ (c, .bar)) (sm := csem .bar) (k' := 2) (wpE_semWait_eq 𝒱₀ (c : Thread nD τ) none Set.univ) (Set.mem_univ _) 0
    (O := O) (W := W) (R := 0) (m := 0) (T := ∅) (by rw [expect_eq m c .bar Nat.one_pos]; decide)) $$ [Hat Hcr HO]
  · isplitr; · iapply (ctx_inv m κ c .bar); iexact HC
    isplitl [Hcr]; · iexact Hcr
    isplitl [HO]; · iexact HO
    isplitr; · iapply (mayWait c .bar (by omega) hO); iapply (ctx_lev m κ); iexact HC
    iexact Hat
  iintro ⟨HO, Hat, Hr, Hp⟩
  ihave Hp := (Entails.of_eq (rest_bar m c)) $$ Hp
  rw [wp_ret]; imodintro
  iapply Hk
  isplitl [Hat]; · iexact Hat
  isplitl [Hp]; · iexact Hp
  iexists _; iexact HO

/-! ## Signals -/

/-- One unit to another device's cell: its duty's payload is handed over, and the unit is no longer owed. -/
theorem signal_one (c' : Dev nD) (k : K) (s : Sem sig) (hs : csem k = .reg s) {t : ℕ} (ht : t < rounds k) {d : Bool} (hd : d ∈ names k) (hu : units k = 1)
    {O₀ O : CellTallies nD τ sig ℕ} (hO : O₀ = O + tallyAt (cell c' k) t 1) {Q : PUnit → sProp 𝕄} :
    iprop(Ctx m κ ∗ dutyTok ER (cell c' k) t d ∗ pay m c' k t d ∗ seen (F := F) c' k t ∗ owing (F := F) c O₀)
      ⊢ iprop((owing (F := F) c O -∗ Q ⟨⟩) -∗ run c (semSignalWord c' s 1#32) Q) := by
  have key := fun W : Waits sig ℕ => Rounds.wp_signal (defs := defs₀ (F := F)) (Γ := .empty) (k := .ret) (Q := Q) (Es := Set.univ) 𝒱₀ ER (Rd m) (c : Thread nD τ) none
    (dst := (c' : Thread nD τ)) (sem := s) (κ := κ (c', k)) (r := t) (d := d) (k' := 1) (O₀ := O₀) (W := W)
    (by rw [← hs, duties_lt m c' k ht]; exact hd) (by rw [← hs, amount_eq m c' k t d, hu]) t O (by rw [← hs]; exact hO)
  rw [← hs] at key
  unfold owing semSignalWord
  iintro ⟨#HC, Ht, Hp, Hr, %W, HO⟩ Hk
  iapply (key W) $$ [Ht Hp Hr HO]
  · isplitr; · iapply (ctx_inv m κ c' k); iexact HC
    isplitl [HO]; · iexact HO
    isplitl [Ht]; · iexact Ht
    isplitl [Hp]; · rw [payload_eq]; iexact Hp
    iexact Hr
  iintro HO
  rw [wp_ret]; imodintro
  iapply Hk
  iexists _; iexact HO

/-- Ring `r`'s credit of stage `t` to the device upstream: the own receive slot, and that the next transfer is waited for. -/
theorem t_credit (r : Fin 4) {t : ℕ} (ht : t < 6) {O₀ O : CellTallies nD τ sig ℕ} (hO : O₀ = O + tallyAt (cell (up r c) (.cr r)) t 1) {Q : PUnit → sProp 𝕄} :
    iprop(Ctx m κ ∗ tok (F := F) (up r c) (.cr r) t ∗ (rAny (F := F) c r ∗ seen (F := F) c (.rcv r) (t + 1)) ∗ seen (F := F) (up r c) (.cr r) t ∗ owing (F := F) c O₀)
      ⊢ iprop((owing (F := F) c O -∗ Q ⟨⟩) -∗ run c (semSignalWord (up r c) (crS r) 1#32) Q) := by
  have h := signal_one m κ c (up r c) (.cr r) (crS r) rfl (t := t) ht (d := false) (Finset.mem_singleton_self _) rfl hO (Q := Q)
  have hp : pay m (up r c) (.cr r) t false = iprop(rAny (F := F) c r ∗ seen (F := F) c (.rcv r) (t + 1)) := by
    show iprop(rAny (F := F) (dn r (up r c)) r ∗ seen (F := F) (dn r (up r c)) (.rcv r) (t + 1)) = _
    rw [dn_up]
  rw [hp] at h; exact h
/-- The signal to the left neighbour's barrier: the receive slots of the rings that go right. -/
theorem t_barLeft {O₀ O : CellTallies nD τ sig ℕ} (hO : O₀ = O + tallyAt (cell (lft c) .bar) 0 1) {Q : PUnit → sProp 𝕄} :
    iprop(Ctx m κ ∗ dutyTok ER (cell (lft c) .bar) 0 true ∗ (rAny (F := F) c 0 ∗ rAny (F := F) c 1) ∗ owing (F := F) c O₀)
      ⊢ iprop((owing (F := F) c O -∗ Q ⟨⟩) -∗ run c (semSignalWord (lft c) barS 1#32) Q) := by
  have h := signal_one m κ c (lft c) .bar barS rfl (t := 0) Nat.one_pos (d := true) (Finset.mem_univ _) rfl hO (Q := Q)
  have hp : pay m (lft c) .bar 0 true = iprop(rAny (F := F) c 0 ∗ rAny (F := F) c 1) := by
    show iprop(rAny (F := F) (rgt (lft c)) 0 ∗ rAny (F := F) (rgt (lft c)) 1) = _
    rw [rgt_lft]
  rw [hp] at h
  iintro ⟨#HC, Ht, Hp, HO⟩
  iapply h
  isplitr; · iexact HC
  isplitl [Ht]; · iexact Ht
  isplitl [Hp]; · iexact Hp
  isplitr; · iapply (ctx_reached m κ (lft c) .bar); iexact HC
  iexact HO
/-- The signal to the right neighbour's barrier: the receive slots of the rings that go left. -/
theorem t_barRight {O₀ O : CellTallies nD τ sig ℕ} (hO : O₀ = O + tallyAt (cell (rgt c) .bar) 0 1) {Q : PUnit → sProp 𝕄} :
    iprop(Ctx m κ ∗ dutyTok ER (cell (rgt c) .bar) 0 false ∗ (rAny (F := F) c 2 ∗ rAny (F := F) c 3) ∗ owing (F := F) c O₀)
      ⊢ iprop((owing (F := F) c O -∗ Q ⟨⟩) -∗ run c (semSignalWord (rgt c) barS 1#32) Q) := by
  have h := signal_one m κ c (rgt c) .bar barS rfl (t := 0) Nat.one_pos (d := false) (Finset.mem_univ _) rfl hO (Q := Q)
  have hp : pay m (rgt c) .bar 0 false = iprop(rAny (F := F) c 2 ∗ rAny (F := F) c 3) := by
    show iprop(rAny (F := F) (lft (rgt c)) 2 ∗ rAny (F := F) (lft (rgt c)) 3) = _
    rw [lft_rgt]
  rw [hp] at h
  iintro ⟨#HC, Ht, Hp, HO⟩
  iapply h
  isplitr; · iexact HC
  isplitl [Ht]; · iexact Ht
  isplitl [Hp]; · iexact Hp
  isplitr; · iapply (ctx_reached m κ (rgt c) .bar); iexact HC
  iexact HO

/-! ## Copies and transfers -/

/-- Send ring `r`'s partial sum of stage `t` downstream. -/
theorem t_send (r : Fin 4) {t : ℕ} (ht : t < 7) {O₀ O : CellTallies nD τ sig ℕ} (hO : O₀ = O + tallyAt (cell (dn r c) (.rcv r)) t N) {Q : PUnit → sProp 𝕄} :
    iprop(Ctx m κ ∗ sIs c r (part m r t c) ∗ rAny (F := F) (dn r c) r ∗ seen (F := F) c (.cr r) t ∗ tok (F := F) c (.snd r) t ∗ seen (F := F) c (.snd r) t
        ∗ tok (F := F) (dn r c) (.rcv r) t ∗ seen (F := F) (dn r c) (.rcv r) t ∗ owing (F := F) c O₀)
      ⊢ iprop(((credit (F := F) c (.snd r) t N ∗ owing (F := F) c O) -∗ Q ⟨⟩) -∗ run c (send r (dn r c)) Q) := by
  unfold owing sIs rAny
  iintro ⟨#HC, ⟨%fs, %hfs, Hs⟩, ⟨%fd, Hd⟩, Hcr, Ht1, Hr1, Ht2, Hr2, %W, HO⟩ Hk
  unfold send Prog.lift
  iapply (Rounds.wp_send_pointsTo_with 𝒱₀ ER (Rd m) (c : Thread nD τ) none (c' := (dn r c : Thread nD τ)) (src := sV r) (dst := rV r) (q := fullShare) (fs := fs) (fd := fd)
    (F := seen (F := F) c (.cr r) t) (sS := csem (.snd r)) (sem := csem (.rcv r)) (r₁ := t) (r₂ := t) (d₁ := false) (d₂ := false) (κ₁ := κ (c, .snd r)) (κ₂ := κ (dn r c, .rcv r))
    (by rw [duties_lt m c (.snd r) ht]; exact Finset.mem_singleton_self _) (by rw [duties_lt m (dn r c) (.rcv r) ht]; exact Finset.mem_singleton_self _)
    t t N (rV_N r) (amount_eq m c (.snd r) t false) (amount_eq m (dn r c) (.rcv r) t false) O hO (W := W)
    (by rw [payload_eq m c (.snd r)]; exact exists_intro (Φ := fun f => sPts (F := F) c r f) fs)
    (by
      rw [payload_eq m (dn r c) (.rcv r)]
      show _ ⊢ iprop(rIs (dn r c) r (part m r t (up r (dn r c))) ∗ seen (F := F) (up r (dn r c)) (.cr r) t)
      rw [up_dn]
      refine sep_mono_left ?_
      unfold rIs
      iintro H
      iexists _
      isplitr
      rotate_left
      · unfold rPts; iexact H
      · ipureintro; rw [rGet_send, hfs])) $$ [Hs Hd Hcr Ht1 Hr1 Ht2 Hr2 HO]
  · isplitr; · iapply (ctx_inv m κ c (.snd r)); iexact HC
    isplitr; · iapply (ctx_inv m κ (dn r c) (.rcv r)); iexact HC
    isplitl [Hs]; · unfold sPts; iexact Hs
    isplitl [Hd Hcr]
    · isplitl [Hd]; · unfold rPts; iexact Hd
      iexact Hcr
    isplitl [HO]; · iexact HO
    isplitl [Ht1]; · iexact Ht1
    isplitl [Hr1]; · iexact Hr1
    isplitl [Ht2]; · iexact Ht2
    iexact Hr2
  iintro ⟨Hc, HO⟩
  rw [wp_ret]; imodintro
  iapply Hk
  isplitl [Hc]; · iexact Hc
  iexists _; iexact HO

/-- Start the copy of a block of rows: the slot and the slot's share of `x` are under way. -/
theorem t_ldStart (h : Fin 2) {t : ℕ} (ht : t < 8) (o : Fin 2 → Nat) (ho : RowsFit o) (hv : stack (rowsOf m c o ho) = xAt m c t h) {Q : PUnit → sProp 𝕄} :
    iprop(Ctx m κ ∗ xAny (F := F) c h ∗ xHbm m c h ∗ tok (F := F) c (.ld h) t ∗ seen (F := F) c (.ld h) t)
      ⊢ iprop((credit (F := F) c (.ld h) t N -∗ Q ⟨⟩) -∗ run c (ldStart h o ho) Q) := by
  unfold xAny xHbm
  iintro ⟨#HC, ⟨%fd, Hd⟩, Hx, Ht, Hr⟩ Hk
  unfold ldStart Prog.lift
  ihave Hx := (pointsTo_split_subset (S := Finset.univ) (Finset.subset_univ ((xC o ho).view.set))).1 $$ Hx
  icases Hx with ⟨Hx1, Hx2⟩
  iapply (Rounds.wp_copy 𝒱₀ ER (Rd m) (c : Thread nD τ) none (src := xC o ho) (dst := xV h) (sem := csem (.ld h)) (q := xShare h)
    (fs := m ((c : Thread nD τ).loc main_arg0)) (r := t) (d := false) (κ := κ (c, .ld h))
    (R := iprop(((xV h).view.loc (c : Thread nD τ) ↦[(xV h).view.set]{fullShare} ((xV h).view.write (Elt F) fd ((xC o ho).view.read (Elt F) (m ((c : Thread nD τ).loc main_arg0))) Finset.univ))
      ∗ (((c : Thread nD τ).loc main_arg0) ↦[Finset.univ \ (xC o ho).view.set]{xShare h} m ((c : Thread nD τ).loc main_arg0))))
    (by rw [duties_lt m c (.ld h) ht]; exact Finset.mem_singleton_self _) t N (xV_N h) (amount_eq m c (.ld h) t false)
    (by
      rw [payload_eq m c (.ld h)]
      show _ ⊢ iprop(xIs c h (xAt m c t h) ∗ xHbm m c h)
      iintro ⟨⟨H1, H2⟩, H3⟩
      isplitl [H1]
      · unfold xIs
        iexists _
        isplitr
        rotate_left
        · unfold xPts; iexact H1
        · ipureintro; rw [xGet_copy]; exact hv
      · unfold xHbm
        iapply (pointsTo_split_subset (S := Finset.univ) (Finset.subset_univ ((xC o ho).view.set))).2
        isplitl [H3]; · iexact H3
        iexact H2)) $$ [Hd Hx1 Hx2 Ht Hr]
  · isplitr; · iapply (ctx_inv m κ c (.ld h)); iexact HC
    isplitl [Hx1]; · iexact Hx1
    isplitl [Hd Hx2]
    · iapply (writeUpdate_frame (c : Thread nD τ))
      isplitl [Hd]
      · iapply (pointsTo_writeUpdate (c : Thread nD τ) (v := (xV h).view) subset_rfl)
        unfold xPts; iexact Hd
      · iexact Hx2
    isplitl [Ht]; · iexact Ht
    iexact Hr
  iintro Hc
  rw [wp_ret]; imodintro
  iapply Hk
  iexact Hc

/-- The copy of a whole buffer holds what the buffer holds. -/
theorem w_copied (fd : (cc0_scratch1 : Ref sig .tc).ty.Contents (Elt F)) (f : (main_arg1 : Ref sig .tc).ty.Contents (Elt F)) :
    wM.view.write (Elt F) fd (wH.view.read (Elt F) f) Finset.univ = (f : (cc0_scratch1 : Ref sig .tc).ty.Contents (Elt F)) :=
  View.write_whole_univ cc0_scratch1 fd f

/-- Start the copy of `w`. -/
theorem t_wStart {Q : PUnit → sProp 𝕄} :
    iprop(Ctx m κ ∗ wAny (F := F) c ∗ wHbm m c ∗ tok (F := F) c .wl 0)
      ⊢ iprop((credit (F := F) c .wl 0 NW -∗ Q ⟨⟩)
        -∗ run c (Prog.lift (.enqueueDma wH (.here wM) (.dma wS) (Memref.isWhole_whole _).wordExact (Memref.isWhole_whole _).wordExact ⟨Or.inl rfl, trivial⟩)) Q) := by
  unfold wAny wHbm
  iintro ⟨#HC, ⟨%fd, Hd⟩, Hx, Ht⟩ Hk
  unfold Prog.lift
  iapply (Rounds.wp_copy_pointsTo 𝒱₀ ER (Rd m) (c : Thread nD τ) none (src := wH) (dst := wM) (sem := csem .wl) (q := fullShare)
    (fs := m ((c : Thread nD τ).loc main_arg1)) (fd := fd) (r := 0) (d := false) (κ := κ (c, .wl))
    (by rw [duties_lt m c .wl Nat.one_pos]; exact Finset.mem_singleton_self _) 0 NW wM_NW (amount_eq m c .wl 0 false)
    (by
      rw [payload_eq m c .wl]
      show _ ⊢ iprop(wPts m c ∗ wHbm m c)
      rw [w_copied]
      simp only [Memref.view_whole, View.set_whole]
      exact BI.Entails.refl _)) $$ [Hd Hx Ht]
  · isplitr; · iapply (ctx_inv m κ c .wl); iexact HC
    isplitl [Hx]; · simp only [Memref.view_whole, View.set_whole]; iexact Hx
    isplitl [Hd]; · simp only [Memref.view_whole, View.set_whole]; iexact Hd
    isplitl [Ht]; · iexact Ht
    iapply (ctx_reached m κ c .wl); iexact HC
  iintro Hc
  rw [wp_ret]; imodintro
  iapply Hk
  iexact Hc

/-- Start the copy of a finished quarter to the result. -/
theorem t_stStart (r : Fin 4) {Q : PUnit → sProp 𝕄} :
    iprop(Ctx m κ ∗ sIs c r (res m r c) ∗ oAny (F := F) c r ∗ tok (F := F) c (.st r) 0)
      ⊢ iprop((credit (F := F) c (.st r) 0 N -∗ Q ⟨⟩) -∗ run c (stStart r) Q) := by
  unfold sIs oAny
  iintro ⟨#HC, ⟨%fs, %hfs, Hs⟩, ⟨%fd, Hd⟩, Ht⟩ Hk
  unfold stStart Prog.lift
  iapply (Rounds.wp_copy_pointsTo 𝒱₀ ER (Rd m) (c : Thread nD τ) none (src := sV r) (dst := oV r) (sem := csem (.st r)) (q := fullShare)
    (fs := fs) (fd := fd) (r := 0) (d := false) (κ := κ (c, .st r))
    (by rw [duties_lt m c (.st r) Nat.one_pos]; exact Finset.mem_singleton_self _) 0 N (oV_N r) (amount_eq m c (.st r) 0 false)
    (by
      rw [payload_eq m c (.st r)]
      show _ ⊢ iprop(oIs c r (flat (res m r c)) ∗ sAny (F := F) c r)
      iintro ⟨H1, H2⟩
      isplitl [H1]
      · unfold oIs
        iexists _
        isplitr
        rotate_left
        · unfold oPts; iexact H1
        · ipureintro; rw [oGet_copy, hfs]
      · unfold sAny sPts; iexists _; iexact H2)) $$ [Hs Hd Ht]
  · isplitr; · iapply (ctx_inv m κ c (.st r)); iexact HC
    isplitl [Hs]; · unfold sPts; iexact Hs
    isplitl [Hd]; · unfold oPts; iexact Hd
    isplitl [Ht]; · iexact Ht
    iapply (ctx_reached m κ c (.st r)); iexact HC
  iintro Hc
  rw [wp_ret]; imodintro
  iapply Hk
  iexact Hc

/-! ## Products -/

/-- Ring `r`'s first product. -/
theorem t_gemm0 (r : Fin 4) (X : S1x1024x1024.Idx → Elt F .f32) {Q : PUnit → sProp 𝕄} :
    iprop(xIs c (half r) X ∗ wPts m c ∗ sAny (F := F) c r)
      ⊢ iprop(((xIs c (half r) X ∗ wPts m c ∗ sIs c r (pay0 X (wAt m c r))) -∗ Q ⟨⟩) -∗ run c (gemm0 r) Q) := by
  unfold xIs sAny wPts
  iintro ⟨⟨%fx, %hx, Hx⟩, Hw, %fs, Hs⟩ Hk
  subst hx
  unfold gemm0 xPts sPts
  simp only [Prog.lift, Prog.bind_op, Prog.bind_ret]
  iapply (wp_load_rect 𝒱₀ (c : Thread nD τ) none Set.univ (m := xM) (r := slot2 (half r)) (S := (xV (half r)).view.set) (by rw [xV_set])) $$ Hx; iintro Hx
  iapply (wp_load 𝒱₀ (c : Thread nD τ) none Set.univ (m := wM) (S := Finset.univ) (Finset.subset_univ _)) $$ Hw; iintro Hw
  iapply (wp_load_rect 𝒱₀ (c : Thread nD τ) none Set.univ (m := sM) (r := slot4 r) (S := (sV r).view.set) (by rw [sV_set])) $$ Hs; iintro Hs
  iapply (wp_store 𝒱₀ (c : Thread nD τ) none Set.univ (m := sM) (r := slot4 r) (Mk := Finset.univ) (S := (sV r).view.set) (by rw [sV_set, View.setOn_univ])) $$ Hs; iintro Hs
  rw [wp_ret]; imodintro
  iapply Hk
  isplitl [Hx]
  · iexists fx
    isplitr; · ipureintro; rfl
    iexact Hx
  isplitl [Hw]; · iexact Hw
  unfold sIs
  iexists _
  isplitr
  rotate_left
  · unfold sPts; iexact Hs
  · ipureintro; exact sGet_store r _ _

/-- A later product of ring `r`: the slot to send then holds it with what was received, the receive slot is free. -/
theorem t_gemm (pl : Vec F S1x1024x1024 .f32 → Vec F S1024x1024 .f32 → Vec F S1x1024x1024 .f32 → FVec F S1x1024x1024 .f32) (r : Fin 4)
    (X P : S1x1024x1024.Idx → Elt F .f32) {Q : PUnit → sProp 𝕄} :
    iprop(xIs c (half r) X ∗ wPts m c ∗ rIs c r P ∗ sAny (F := F) c r)
      ⊢ iprop(((xIs c (half r) X ∗ wPts m c ∗ rAny (F := F) c r ∗ sIs c r (pl X (wAt m c r) P)) -∗ Q ⟨⟩) -∗ run c (gemm pl r) Q) := by
  unfold xIs sAny wPts rIs
  iintro ⟨⟨%fx, %hx, Hx⟩, Hw, ⟨%fp, %hp, Hp⟩, %fs, Hs⟩ Hk
  subst hx; subst hp
  unfold gemm xPts sPts rPts
  simp only [Prog.lift, Prog.bind_op, Prog.bind_ret]
  iapply (wp_load_rect 𝒱₀ (c : Thread nD τ) none Set.univ (m := xM) (r := slot2 (half r)) (S := (xV (half r)).view.set) (by rw [xV_set])) $$ Hx; iintro Hx
  iapply (wp_load 𝒱₀ (c : Thread nD τ) none Set.univ (m := wM) (S := Finset.univ) (Finset.subset_univ _)) $$ Hw; iintro Hw
  iapply (wp_load_rect 𝒱₀ (c : Thread nD τ) none Set.univ (m := rM) (r := slot4 r) (S := (rV r).view.set) (by rw [rV_set])) $$ Hp; iintro Hp
  iapply (wp_load_rect 𝒱₀ (c : Thread nD τ) none Set.univ (m := sM) (r := slot4 r) (S := (sV r).view.set) (by rw [sV_set])) $$ Hs; iintro Hs
  iapply (wp_store 𝒱₀ (c : Thread nD τ) none Set.univ (m := sM) (r := slot4 r) (Mk := Finset.univ) (S := (sV r).view.set) (by rw [sV_set, View.setOn_univ])) $$ Hs; iintro Hs
  rw [wp_ret]; imodintro
  iapply Hk
  isplitl [Hx]
  · iexists fx
    isplitr; · ipureintro; rfl
    iexact Hx
  isplitl [Hw]; · iexact Hw
  isplitl [Hp]
  · unfold rAny rPts; iexists _; iexact Hp
  unfold sIs
  iexists _
  isplitr
  rotate_left
  · unfold sPts; iexact Hs
  · ipureintro; exact sGet_store r _ _

end Cert.Rings

end
-- ==== Proof.Body.lean ====
/-
The body's run on one device, by its structure: one ring's turn in a step, a step, the prologue, the last step, and the
whole from what the launch hands a device to what it leaves.
-/
module

public import proofs.«01_k».proof.Proof.Rules

@[expose] public section

noncomputable section

namespace Cert.Rings

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

variable (κ : Dev nD × K → ℕ) (c : Dev nD)

/-! ## What a device holds between steps -/

/-- Ring `r` between stages: its transfer of stage `s` under way. -/
def RIn (r : Fin 4) (s : ℕ) : sProp 𝕄 :=
  iprop(at_ (F := F) c (.snd r) s ∗ at_ (F := F) c (.rcv r) s ∗ at_ (F := F) c (.cr r) s ∗ credit (F := F) c (.snd r) s N)
/-- What ring `r` spends after the transfer of stage `s` has come: the rights to wait for the credit, to pay the credit
    upstream, and to pay the next transfer. -/
def Spend (r : Fin 4) (s : ℕ) : sProp 𝕄 :=
  iprop(credit (F := F) c (.cr r) s 1 ∗ tok (F := F) (up r c) (.cr r) s ∗ tok (F := F) c (.snd r) (s + 1) ∗ tok (F := F) (dn r c) (.rcv r) (s + 1))
/-- Ring `r` when the transfer of stage `s` has come and the own has gone. -/
def Arr (r : Fin 4) (s : ℕ) : sProp 𝕄 :=
  iprop((at_ (F := F) c (.snd r) (s + 1) ∗ seen (F := F) c (.snd r) (s + 1) ∗ at_ (F := F) c (.rcv r) (s + 1) ∗ seen (F := F) c (.rcv r) (s + 1) ∗ at_ (F := F) c (.cr r) s)
    ∗ sAny (F := F) c r ∗ rIs c r (part m r s (up r c)) ∗ seen (F := F) (up r c) (.cr r) s)
/-- The load of round `t` into slot `h` under way. -/
def LIn (h : Fin 2) (t : ℕ) : sProp 𝕄 := iprop(at_ (F := F) c (.ld h) t ∗ credit (F := F) c (.ld h) t N)
/-- The load of round `t` into slot `h` done, what there is besides the rows. -/
def LOut (h : Fin 2) (t : ℕ) : sProp 𝕄 := iprop(at_ (F := F) c (.ld h) (t + 1) ∗ seen (F := F) c (.ld h) (t + 1) ∗ xHbm m c h)

/-- What is owed at a ring's place of stage `t + 1`, by the ring. -/
theorem owe_ring (r : Fin 4) {t : ℕ} (h : t < 6) : oweFrom c (4 * (t + 1) + place r)
    = (oweFrom c (4 * (t + 1) + place r + 1) + tallyAt (cell (dn r c) (.rcv r)) (t + 1) N) + tallyAt (cell (up r c) (.cr r)) t 1 := by
  match r with
  | 0 => exact oweFrom_step c 0 h
  | 1 => exact oweFrom_step c 2 h
  | 2 => exact oweFrom_step c 1 h
  | 3 => exact oweFrom_step c 3 h
/-- What is owed at a ring's place of the first stage. -/
theorem owe_ring0 (r : Fin 4) : oweFrom c (place r) = oweFrom c (place r + 1) + tallyAt (cell (dn r c) (.rcv r)) 0 N := by
  match r with
  | 0 => exact oweFrom_first c 0
  | 1 => exact oweFrom_first c 2
  | 2 => exact oweFrom_first c 1
  | 3 => exact oweFrom_first c 3
/-- A ring has one of four places in a stage. -/
theorem place_lt (r : Fin 4) : place r < 4 := by revert r; decide

/-! ## One ring's turn -/

/-- The waits of a turn: the own send out, the upstream device's partial sum in. -/
theorem t_arrive (r : Fin 4) {s : ℕ} (hs : s < 7) {O : CellTallies nD τ sig ℕ} (hO : Above (2 * (4 * s + place r) + 2) O) (h0 : Above 0 O) {Q : PUnit → sProp 𝕄} :
    iprop(Ctx m κ ∗ RIn (F := F) c r s ∗ credit (F := F) c (.rcv r) s N ∗ owing (F := F) c O)
      ⊢ iprop(((Arr m c r s ∗ owing (F := F) c O) -∗ Q ⟨⟩) -∗ run c (sendWait r) (fun _ => run c (recvWait r) Q)) := by
  unfold RIn
  iintro ⟨#HC, ⟨Has, Har, Hac, Hcs⟩, Hcr, HO⟩ Hk
  iapply (t_sendWait m κ c r hs h0) $$ [Has Hcs HO]
  · isplitr; · iexact HC
    isplitl [Has]; · iexact Has
    isplitl [Hcs]; · iexact Hcs
    iexact HO
  iintro ⟨Has, Hrs, Hsl, HO⟩
  iapply (t_recvWait m κ c r hs hO) $$ [Har Hcr HO]
  · isplitr; · iexact HC
    isplitl [Har]; · iexact Har
    isplitl [Hcr]; · iexact Hcr
    iexact HO
  iintro ⟨Har, Hrr, ⟨Hp, Hup⟩, HO⟩
  iapply Hk
  unfold Arr
  isplitr [HO]
  · isplitl [Has Hrs Har Hrr Hac]
    · isplitl [Has]; · iexact Has
      isplitl [Hrs]; · iexact Hrs
      isplitl [Har]; · iexact Har
      isplitl [Hrr]; · iexact Hrr
      iexact Hac
    isplitl [Hsl]; · iexact Hsl
    isplitl [Hp]; · iexact Hp
    iexact Hup
  iexact HO

/-- The rest of a turn: the product, the credit upstream, the wait for the own, the transfer downstream. -/
theorem t_turn (r : Fin 4) {s : ℕ} (hs : s < 6) {j : ℕ} (hj : j = 4 * (s + 1) + place r) {Q : PUnit → sProp 𝕄} :
    iprop(Ctx m κ ∗ Arr m c r s ∗ Spend (F := F) c r s ∗ xIs c (half r) (xAt m c (s + 1) (half r)) ∗ wPts m c ∗ owing (F := F) c (oweFrom c j))
      ⊢ iprop(((RIn (F := F) c r (s + 1) ∗ xIs c (half r) (xAt m c (s + 1) (half r)) ∗ wPts m c ∗ owing (F := F) c (oweFrom c (j + 1))) -∗ Q ⟨⟩)
          -∗ run c (ringStep c r) Q) := by
  subst hj
  have hpl := place_lt r
  have hab : Above (2 * (4 * s + place r) + 3) (oweFrom c (4 * (s + 1) + place r + 1) + tallyAt (cell (dn r c) (.rcv r)) (s + 1) N) :=
    above_add (above_oweFrom c (by omega) (by omega)) (above_tally _ _ (by omega) (by show _ < 2 * (4 * (s + 1) + place r) + 2; omega))
  unfold Arr Spend
  iintro ⟨#HC, ⟨⟨Has, Hrs, Har, Hrr, Hac⟩, Hsl, Hp, Hup⟩, ⟨Hcc, Htc, Hts, Htr⟩, Hx, Hw, HO⟩ Hk
  unfold ringStep pass
  simp only [wp_bind]
  iapply (t_gemm m c payAdd r (xAt m c (s + 1) (half r)) (part m r s (up r c))) $$ [Hx Hw Hp Hsl]
  · isplitl [Hx]; · iexact Hx
    isplitl [Hw]; · iexact Hw
    isplitl [Hp]; · iexact Hp
    iexact Hsl
  iintro ⟨Hx, Hw, Hp, Hsl⟩
  iapply (t_credit m κ c r hs (owe_ring c r hs)) $$ [Htc Hp Hrr Hup HO]
  · isplitr; · iexact HC
    isplitl [Htc]; · iexact Htc
    isplitl [Hp Hrr]
    · isplitl [Hp]; · iexact Hp
      iexact Hrr
    isplitl [Hup]; · iexact Hup
    iexact HO
  iintro HO
  iapply (t_creditWait m κ c r hs hab) $$ [Hac Hcc HO]
  · isplitr; · iexact HC
    isplitl [Hac]; · iexact Hac
    isplitl [Hcc]; · iexact Hcc
    iexact HO
  iintro ⟨Hac, Hrc, ⟨Hd, Hrd⟩, HO⟩
  have hs7 : s + 1 < 7 := by omega
  iapply (t_send m κ c r hs7 rfl) $$ [Hsl Hd Hrc Hts Hrs Htr Hrd HO]
  · isplitr; · iexact HC
    isplitl [Hsl]; · iexact Hsl
    isplitl [Hd]; · iexact Hd
    isplitl [Hrc]; · iexact Hrc
    isplitl [Hts]; · iexact Hts
    isplitl [Hrs]; · iexact Hrs
    isplitl [Htr]; · iexact Htr
    isplitl [Hrd]; · iexact Hrd
    iexact HO
  iintro ⟨Hcs, HO⟩
  iapply Hk
  unfold RIn
  isplitl [Has Har Hac Hcs]
  · isplitl [Has]; · iexact Has
    isplitl [Har]; · iexact Har
    isplitl [Hac]; · iexact Hac
    iexact Hcs
  isplitl [Hx]; · iexact Hx
  isplitl [Hw]; · iexact Hw
  iexact HO

/-- The wait for rows. -/
theorem t_rows (h : Fin 2) {t : ℕ} (ht : t < 8) (o : Fin 2 → Nat) (ho : RowsFit o) {O : CellTallies nD τ sig ℕ} (hO : Above 0 O) {Q : PUnit → sProp 𝕄} :
    iprop(Ctx m κ ∗ LIn (F := F) c h t ∗ owing (F := F) c O)
      ⊢ iprop(((LOut m c h t ∗ xIs c h (xAt m c t h) ∗ owing (F := F) c O) -∗ Q ⟨⟩) -∗ run c (ldWait h o ho) Q) := by
  unfold LIn LOut
  iintro ⟨#HC, ⟨Ha, Hc⟩, HO⟩ Hk
  iapply (t_ldWait m κ c h ht o ho hO) $$ [Ha Hc HO]
  · isplitr; · iexact HC
    isplitl [Ha]; · iexact Ha
    isplitl [Hc]; · iexact Hc
    iexact HO
  iintro ⟨Ha, Hr, ⟨Hx, Hh⟩, HO⟩
  iapply Hk
  isplitl [Ha Hr Hh]
  · isplitl [Ha]; · iexact Ha
    isplitl [Hr]; · iexact Hr
    iexact Hh
  isplitl [Hx]; · iexact Hx
  iexact HO

/-- Ask for the next rows: the slot's contents are done with. -/
theorem t_next (h : Fin 2) {t : ℕ} (ht : t + 1 < 8) (o : Fin 2 → Nat) (ho : RowsFit o) (hv : stack (rowsOf m c o ho) = xAt m c (t + 1) h)
    (X : S1x1024x1024.Idx → Elt F .f32) {Q : PUnit → sProp 𝕄} :
    iprop(Ctx m κ ∗ LOut m c h t ∗ xIs c h X ∗ tok (F := F) c (.ld h) (t + 1))
      ⊢ iprop((LIn (F := F) c h (t + 1) -∗ Q ⟨⟩) -∗ run c (ldStart h o ho) Q) := by
  unfold LOut
  iintro ⟨#HC, ⟨Ha, Hr, Hh⟩, Hx, Ht⟩ Hk
  iapply (t_ldStart m κ c h ht o ho hv) $$ [Hr Hh Hx Ht]
  · isplitr; · iexact HC
    isplitl [Hx]
    · unfold xIs xAny
      icases Hx with ⟨%f, -, Hx⟩
      iexists f; iexact Hx
    isplitl [Hh]; · iexact Hh
    isplitl [Ht]; · iexact Ht
    iexact Hr
  iintro Hc
  iapply Hk
  unfold LIn
  isplitl [Ha]; · iexact Ha
  iexact Hc

/-! ## A step -/

/-- What a device holds before step `s`. -/
def Mid (s : ℕ) : sProp 𝕄 :=
  iprop((RIn (F := F) c 0 s ∗ RIn (F := F) c 2 s ∗ RIn (F := F) c 1 s ∗ RIn (F := F) c 3 s) ∗ (LIn (F := F) c 0 (s + 1) ∗ LIn (F := F) c 1 (s + 1))
    ∗ wPts m c ∗ owing (F := F) c (oweFrom c (4 * (s + 1))))
/-- What ring `r` spends from stage `s` to the next. -/
def Kit (r : Fin 4) (s : ℕ) : sProp 𝕄 := iprop(credit (F := F) c (.rcv r) s N ∗ Spend (F := F) c r s)
/-- What step `s` spends. -/
def Kits (s : ℕ) : sProp 𝕄 :=
  iprop((Kit (F := F) c 0 s ∗ Kit (F := F) c 2 s ∗ Kit (F := F) c 1 s ∗ Kit (F := F) c 3 s) ∗ tok (F := F) c (.ld 0) (s + 2) ∗ tok (F := F) c (.ld 1) (s + 2))

/-- What is owed after a ring's turn in stage `s` lies above the level of that turn's receive. -/
theorem above_low (r : Fin 4) {j s : ℕ} (hj : j = 4 * (s + 1) + place r) : Above (2 * (4 * s + place r) + 2) (oweFrom c j) := by
  have := place_lt r; exact above_oweFrom c (by omega) (by omega)
/-- Everything owed to the rings lies above level zero. -/
theorem above_0 (j : ℕ) : Above 0 (oweFrom c j) := above_oweFrom c (by omega) (by omega)

/-- One of the like steps. -/
theorem t_step {s : ℕ} (hs : s < 6) (R R' : Rows) (hR : R' = rowsAt c (s + 2)) {Q : PUnit → sProp 𝕄} :
    iprop(Ctx m κ ∗ Mid m c s ∗ Kits (F := F) c s) ⊢ iprop((Mid m c (s + 1) -∗ Q ⟨⟩) -∗ run c (step c R R') Q) := by
  subst hR
  have hs7 : s < 7 := by omega
  have h1 : s + 1 < 8 := by omega
  have h2 : s + 1 + 1 < 8 := by omega
  unfold Mid Kits step Kit
  simp only [wp_bind]
  iintro ⟨#HC, ⟨⟨HR0, HR2, HR1, HR3⟩, ⟨HL0, HL1⟩, Hw, HO⟩, ⟨⟨Hc0, HK0⟩, ⟨Hc2, HK2⟩, ⟨Hc1, HK1⟩, Hc3, HK3⟩, Hl0, Hl1⟩ Hk
  -- ring 0
  iapply (t_arrive m κ c 0 hs7 (above_low c 0 rfl) (above_0 c _)) $$ [HR0 Hc0 HO]
  · isplitr; · iexact HC
    isplitl [HR0]; · iexact HR0
    isplitl [Hc0]; · iexact Hc0
    iexact HO
  iintro ⟨HR0, HO⟩
  iapply (t_rows m κ c 0 h1 R.o0 R.h0 (above_0 c _)) $$ [HL0 HO]
  · isplitr; · iexact HC
    isplitl [HL0]; · iexact HL0
    iexact HO
  iintro ⟨HL0, Hx0, HO⟩
  iapply (t_turn m κ c 0 hs rfl) $$ [HR0 HK0 Hx0 Hw HO]
  · isplitr; · iexact HC
    isplitl [HR0]; · iexact HR0
    isplitl [HK0]; · iexact HK0
    isplitl [Hx0]; · iexact Hx0
    isplitl [Hw]; · iexact Hw
    iexact HO
  iintro ⟨HR0, Hx0, Hw, HO⟩
  -- ring 2
  iapply (t_arrive m κ c 2 hs7 (above_low c 2 rfl) (above_0 c _)) $$ [HR2 Hc2 HO]
  · isplitr; · iexact HC
    isplitl [HR2]; · iexact HR2
    isplitl [Hc2]; · iexact Hc2
    iexact HO
  iintro ⟨HR2, HO⟩
  iapply (t_rows m κ c 1 h1 R.o1 R.h1 (above_0 c _)) $$ [HL1 HO]
  · isplitr; · iexact HC
    isplitl [HL1]; · iexact HL1
    iexact HO
  iintro ⟨HL1, Hx1, HO⟩
  iapply (t_turn m κ c 2 hs rfl) $$ [HR2 HK2 Hx1 Hw HO]
  · isplitr; · iexact HC
    isplitl [HR2]; · iexact HR2
    isplitl [HK2]; · iexact HK2
    isplitl [Hx1]; · iexact Hx1
    isplitl [Hw]; · iexact Hw
    iexact HO
  iintro ⟨HR2, Hx1, Hw, HO⟩
  -- ring 1
  iapply (t_arrive m κ c 1 hs7 (above_low c 1 rfl) (above_0 c _)) $$ [HR1 Hc1 HO]
  · isplitr; · iexact HC
    isplitl [HR1]; · iexact HR1
    isplitl [Hc1]; · iexact Hc1
    iexact HO
  iintro ⟨HR1, HO⟩
  iapply (t_turn m κ c 1 hs rfl) $$ [HR1 HK1 Hx0 Hw HO]
  · isplitr; · iexact HC
    isplitl [HR1]; · iexact HR1
    isplitl [HK1]; · iexact HK1
    isplitl [Hx0]; · iexact Hx0
    isplitl [Hw]; · iexact Hw
    iexact HO
  iintro ⟨HR1, Hx0, Hw, HO⟩
  iapply (t_next m κ c 0 h2 (rowsAt c (s + 2)).o0 (rowsAt c (s + 2)).h0 rfl (xAt m c (s + 1) (half 1))) $$ [HL0 Hx0 Hl0]
  · isplitr; · iexact HC
    isplitl [HL0]; · iexact HL0
    isplitl [Hx0]; · iexact Hx0
    iexact Hl0
  iintro HL0
  -- ring 3
  iapply (t_arrive m κ c 3 hs7 (above_low c 3 rfl) (above_0 c _)) $$ [HR3 Hc3 HO]
  · isplitr; · iexact HC
    isplitl [HR3]; · iexact HR3
    isplitl [Hc3]; · iexact Hc3
    iexact HO
  iintro ⟨HR3, HO⟩
  iapply (t_turn m κ c 3 hs rfl) $$ [HR3 HK3 Hx1 Hw HO]
  · isplitr; · iexact HC
    isplitl [HR3]; · iexact HR3
    isplitl [HK3]; · iexact HK3
    isplitl [Hx1]; · iexact Hx1
    isplitl [Hw]; · iexact Hw
    iexact HO
  iintro ⟨HR3, Hx1, Hw, HO⟩
  iapply (t_next m κ c 1 h2 (rowsAt c (s + 2)).o1 (rowsAt c (s + 2)).h1 rfl (xAt m c (s + 1) (half 3))) $$ [HL1 Hx1 Hl1]
  · isplitr; · iexact HC
    isplitl [HL1]; · iexact HL1
    isplitl [Hx1]; · iexact Hx1
    iexact Hl1
  iintro HL1
  iapply Hk
  isplitl [HR0 HR2 HR1 HR3]
  · isplitl [HR0]; · iexact HR0
    isplitl [HR2]; · iexact HR2
    isplitl [HR1]; · iexact HR1
    iexact HR3
  isplitl [HL0 HL1]
  · isplitl [HL0]; · iexact HL0
    iexact HL1
  isplitl [Hw]; · iexact Hw
  iexact HO

/-! ## The prologue -/

/-- Ring `r` at launch, the receive slot aside. -/
def RFirst (r : Fin 4) : sProp 𝕄 :=
  iprop(sAny (F := F) c r ∗ (at_ (F := F) c (.snd r) 0 ∗ at_ (F := F) c (.rcv r) 0 ∗ at_ (F := F) c (.cr r) 0)
    ∗ tok (F := F) c (.snd r) 0 ∗ tok (F := F) (dn r c) (.rcv r) 0)
/-- Slot `h` for rows at launch. -/
def LFirst (h : Fin 2) : sProp 𝕄 :=
  iprop(at_ (F := F) c (.ld h) 0 ∗ xAny (F := F) c h ∗ xHbm m c h ∗ tok (F := F) c (.ld h) 0 ∗ tok (F := F) c (.ld h) 1)
/-- The copy of `w` at launch. -/
def WFirst : sProp 𝕄 := iprop(at_ (F := F) c .wl 0 ∗ wAny (F := F) c ∗ wHbm m c ∗ tok (F := F) c .wl 0)
/-- The barrier at launch: the own round, and the duties at both neighbours'. -/
def BFirst : sProp 𝕄 :=
  iprop(at_ (F := F) c .bar 0 ∗ credit (F := F) c .bar 0 2 ∗ dutyTok ER (cell (lft c) .bar) 0 true ∗ dutyTok ER (cell (rgt c) .bar) 0 false)

/-- The first product of ring `r` and its transfer. -/
theorem t_first (r : Fin 4) {j : ℕ} (hj : j = place r) {Q : PUnit → sProp 𝕄} :
    iprop(Ctx m κ ∗ RFirst (F := F) c r ∗ rAny (F := F) (dn r c) r ∗ xIs c (half r) (xAt m c 0 (half r)) ∗ wPts m c ∗ owing (F := F) c (oweFrom c j))
      ⊢ iprop(((RIn (F := F) c r 0 ∗ xIs c (half r) (xAt m c 0 (half r)) ∗ wPts m c ∗ owing (F := F) c (oweFrom c (j + 1))) -∗ Q ⟨⟩)
          -∗ run c (gemm0 r) (fun _ => run c (send r (dn r c)) Q)) := by
  subst hj
  unfold RFirst RIn
  iintro ⟨#HC, ⟨Hs, ⟨Has, Har, Hac⟩, Ht1, Ht2⟩, Hd, Hx, Hw, HO⟩ Hk
  iapply (t_gemm0 m c r (xAt m c 0 (half r))) $$ [Hx Hw Hs]
  · isplitl [Hx]; · iexact Hx
    isplitl [Hw]; · iexact Hw
    iexact Hs
  iintro ⟨Hx, Hw, Hs⟩
  have h7 : 0 < 7 := by omega
  iapply (t_send m κ c r h7 (owe_ring0 c r)) $$ [Hs Hd Ht1 Ht2 HO]
  · isplitr; · iexact HC
    isplitl [Hs]; · iexact Hs
    isplitl [Hd]; · iexact Hd
    isplitr; · iapply (ctx_reached m κ c (.cr r)); iexact HC
    isplitl [Ht1]; · iexact Ht1
    isplitr; · iapply (ctx_reached m κ c (.snd r)); iexact HC
    isplitl [Ht2]; · iexact Ht2
    isplitr; · iapply (ctx_reached m κ (dn r c) (.rcv r)); iexact HC
    iexact HO
  iintro ⟨Hc, HO⟩
  iapply Hk
  isplitl [Has Har Hac Hc]
  · isplitl [Has]; · iexact Has
    isplitl [Har]; · iexact Har
    isplitl [Hac]; · iexact Hac
    iexact Hc
  isplitl [Hx]; · iexact Hx
  isplitl [Hw]; · iexact Hw
  iexact HO

/-- The prologue. -/
theorem t_prologue {Q : PUnit → sProp 𝕄} :
    iprop(Ctx m κ ∗ ((rAny (F := F) c 0 ∗ rAny (F := F) c 1) ∗ rAny (F := F) c 2 ∗ rAny (F := F) c 3) ∗ BFirst (F := F) c ∗ WFirst m c
        ∗ (LFirst m c 0 ∗ LFirst m c 1) ∗ (RFirst (F := F) c 0 ∗ RFirst (F := F) c 2 ∗ RFirst (F := F) c 1 ∗ RFirst (F := F) c 3) ∗ owing (F := F) c (owe0 c))
      ⊢ iprop(((Mid m c 0 ∗ at_ (F := F) c .bar 1 ∗ at_ (F := F) c .wl 1 ∗ wHbm m c) -∗ Q ⟨⟩) -∗ run c (prologue c) Q) := by
  have h8 : 0 < 8 := by omega
  have h1 : 0 + 1 < 8 := by omega
  have hbar : Above 1 (oweFrom c 0) := above_oweFrom c (by omega) (by omega)
  unfold BFirst WFirst LFirst prologue
  simp only [wp_bind]
  iintro ⟨#HC, ⟨Hr01, Hr23⟩, ⟨Hab, Hcb, Htl, Htr⟩, ⟨Haw, Hwd, Hwh, Htw⟩, ⟨⟨Ha0, Hx0, Hh0, Ht00, Ht01⟩, Ha1, Hx1, Hh1, Ht10, Ht11⟩, ⟨HR0, HR2, HR1, HR3⟩, HO⟩ Hk
  iapply (t_barLeft m κ c (O₀ := owe0 c) (O := owe1 c) rfl) $$ [Htl Hr01 HO]
  · isplitr; · iexact HC
    isplitl [Htl]; · iexact Htl
    isplitl [Hr01]; · iexact Hr01
    iexact HO
  iintro HO
  iapply (t_barRight m κ c (O₀ := owe1 c) (O := oweFrom c 0) rfl) $$ [Htr Hr23 HO]
  · isplitr; · iexact HC
    isplitl [Htr]; · iexact Htr
    isplitl [Hr23]; · iexact Hr23
    iexact HO
  iintro HO
  iapply (t_barWait m κ c hbar) $$ [Hab Hcb HO]
  · isplitr; · iexact HC
    isplitl [Hab]; · iexact Hab
    isplitl [Hcb]; · iexact Hcb
    iexact HO
  iintro ⟨Hab, ⟨⟨Hd2, Hd3⟩, Hd0, Hd1⟩, HO⟩
  iapply (t_wStart m κ c) $$ [Hwd Hwh Htw]
  · isplitr; · iexact HC
    isplitl [Hwd]; · iexact Hwd
    isplitl [Hwh]; · iexact Hwh
    iexact Htw
  iintro Hcw
  iapply (t_ldStart m κ c 0 h8 (rowsPro c 0).o0 (rowsPro c 0).h0 rfl) $$ [Hx0 Hh0 Ht00]
  · isplitr; · iexact HC
    isplitl [Hx0]; · iexact Hx0
    isplitl [Hh0]; · iexact Hh0
    isplitl [Ht00]; · iexact Ht00
    iapply (ctx_reached m κ c (.ld 0)); iexact HC
  iintro Hc0
  iapply (t_ldStart m κ c 1 h8 (rowsPro c 0).o1 (rowsPro c 0).h1 rfl) $$ [Hx1 Hh1 Ht10]
  · isplitr; · iexact HC
    isplitl [Hx1]; · iexact Hx1
    isplitl [Hh1]; · iexact Hh1
    isplitl [Ht10]; · iexact Ht10
    iapply (ctx_reached m κ c (.ld 1)); iexact HC
  iintro Hc1
  iapply (t_wWait m κ c (above_0 c 0)) $$ [Haw Hcw HO]
  · isplitr; · iexact HC
    isplitl [Haw]; · iexact Haw
    isplitl [Hcw]; · iexact Hcw
    iexact HO
  iintro ⟨Haw, -, ⟨Hw, Hwh⟩, HO⟩
  iapply (t_rows m κ c 0 h8 (rowsPro c 0).o0 (rowsPro c 0).h0 (above_0 c 0)) $$ [Ha0 Hc0 HO]
  · isplitr; · iexact HC
    isplitl [Ha0 Hc0]
    · unfold LIn
      isplitl [Ha0]; · iexact Ha0
      iexact Hc0
    iexact HO
  iintro ⟨HL0, Hx0, HO⟩
  iapply (t_rows m κ c 1 h8 (rowsPro c 0).o1 (rowsPro c 0).h1 (above_0 c 0)) $$ [Ha1 Hc1 HO]
  · isplitr; · iexact HC
    isplitl [Ha1 Hc1]
    · unfold LIn
      isplitl [Ha1]; · iexact Ha1
      iexact Hc1
    iexact HO
  iintro ⟨HL1, Hx1, HO⟩
  iapply (t_first m κ c 0 (j := 0) rfl) $$ [HR0 Hd0 Hx0 Hw HO]
  · isplitr; · iexact HC
    isplitl [HR0]; · iexact HR0
    isplitl [Hd0]; · iexact Hd0
    isplitl [Hx0]; · iexact Hx0
    isplitl [Hw]; · iexact Hw
    iexact HO
  iintro ⟨HR0, Hx0, Hw, HO⟩
  iapply (t_first m κ c 2 (j := 0 + 1) rfl) $$ [HR2 Hd2 Hx1 Hw HO]
  · isplitr; · iexact HC
    isplitl [HR2]; · iexact HR2
    isplitl [Hd2]; · iexact Hd2
    isplitl [Hx1]; · iexact Hx1
    isplitl [Hw]; · iexact Hw
    iexact HO
  iintro ⟨HR2, Hx1, Hw, HO⟩
  iapply (t_first m κ c 1 (j := 0 + 1 + 1) rfl) $$ [HR1 Hd1 Hx0 Hw HO]
  · isplitr; · iexact HC
    isplitl [HR1]; · iexact HR1
    isplitl [Hd1]; · iexact Hd1
    isplitl [Hx0]; · iexact Hx0
    isplitl [Hw]; · iexact Hw
    iexact HO
  iintro ⟨HR1, Hx0, Hw, HO⟩
  iapply (t_first m κ c 3 (j := 0 + 1 + 1 + 1) rfl) $$ [HR3 Hd3 Hx1 Hw HO]
  · isplitr; · iexact HC
    isplitl [HR3]; · iexact HR3
    isplitl [Hd3]; · iexact Hd3
    isplitl [Hx1]; · iexact Hx1
    isplitl [Hw]; · iexact Hw
    iexact HO
  iintro ⟨HR3, Hx1, Hw, HO⟩
  iapply (t_next m κ c 0 h1 (rowsPro c 1).o0 (rowsPro c 1).h0 rfl (xAt m c 0 (half 1))) $$ [HL0 Hx0 Ht01]
  · isplitr; · iexact HC
    isplitl [HL0]; · iexact HL0
    isplitl [Hx0]; · iexact Hx0
    iexact Ht01
  iintro HL0
  iapply (t_next m κ c 1 h1 (rowsPro c 1).o1 (rowsPro c 1).h1 rfl (xAt m c 0 (half 3))) $$ [HL1 Hx1 Ht11]
  · isplitr; · iexact HC
    isplitl [HL1]; · iexact HL1
    isplitl [Hx1]; · iexact Hx1
    iexact Ht11
  iintro HL1
  iapply Hk
  unfold Mid
  isplitr [Hab Haw Hwh]
  · isplitl [HR0 HR2 HR1 HR3]
    · isplitl [HR0]; · iexact HR0
      isplitl [HR2]; · iexact HR2
      isplitl [HR1]; · iexact HR1
      iexact HR3
    isplitl [HL0 HL1]
    · isplitl [HL0]; · iexact HL0
      iexact HL1
    isplitl [Hw]; · iexact Hw
    iexact HO
  isplitl [Hab]; · iexact Hab
  isplitl [Haw]; · iexact Haw
  iexact Hwh

/-! ## The last step -/

/-- What ring `r` spends in the last step: the right to wait for the last transfer; the quarter of the result and its copy's cell. -/
def KLast (r : Fin 4) : sProp 𝕄 := iprop(credit (F := F) c (.rcv r) 6 N ∗ at_ (F := F) c (.st r) 0 ∗ tok (F := F) c (.st r) 0 ∗ oAny (F := F) c r)
/-- Ring `r` with the copy of its quarter under way. -/
def RLast (r : Fin 4) : sProp 𝕄 :=
  iprop((at_ (F := F) c (.snd r) 7 ∗ at_ (F := F) c (.rcv r) 7 ∗ at_ (F := F) c (.cr r) 6) ∗ rAny (F := F) c r ∗ at_ (F := F) c (.st r) 0 ∗ credit (F := F) c (.st r) 0 N)
/-- Ring `r` at the end. -/
def RDone (r : Fin 4) : sProp 𝕄 :=
  iprop((at_ (F := F) c (.snd r) 7 ∗ at_ (F := F) c (.rcv r) 7 ∗ at_ (F := F) c (.cr r) 6 ∗ at_ (F := F) c (.st r) 1)
    ∗ sAny (F := F) c r ∗ rAny (F := F) c r ∗ oIs c r (flat (res m r c)))

/-- A ring's part of the last step: the last product with what came, activated, on its way to the result. -/
theorem t_last (r : Fin 4) {Q : PUnit → sProp 𝕄} :
    iprop(Ctx m κ ∗ Arr m c r 6 ∗ (at_ (F := F) c (.st r) 0 ∗ tok (F := F) c (.st r) 0 ∗ oAny (F := F) c r) ∗ xIs c (half r) (xAt m c 7 (half r)) ∗ wPts m c)
      ⊢ iprop(((RLast (F := F) c r ∗ xIs c (half r) (xAt m c 7 (half r)) ∗ wPts m c) -∗ Q ⟨⟩) -∗ run c (ringLast r) Q) := by
  unfold Arr RLast ringLast
  simp only [wp_bind]
  iintro ⟨#HC, ⟨⟨Has, -, Har, -, Hac⟩, Hsl, Hp, -⟩, ⟨Hat, Ht, Ho⟩, Hx, Hw⟩ Hk
  iapply (t_gemm m c payOut r (xAt m c 7 (half r)) (part m r 6 (up r c))) $$ [Hx Hw Hp Hsl]
  · isplitl [Hx]; · iexact Hx
    isplitl [Hw]; · iexact Hw
    isplitl [Hp]; · iexact Hp
    iexact Hsl
  iintro ⟨Hx, Hw, Hp, Hsl⟩
  iapply (t_stStart m κ c r) $$ [Hsl Ho Ht]
  · isplitr; · iexact HC
    isplitl [Hsl]; · iexact Hsl
    isplitl [Ho]; · iexact Ho
    iexact Ht
  iintro Hc
  iapply Hk
  isplitl [Has Har Hac Hp Hat Hc]
  · isplitl [Has Har Hac]
    · isplitl [Has]; · iexact Has
      isplitl [Har]; · iexact Har
      iexact Hac
    isplitl [Hp]; · iexact Hp
    isplitl [Hat]; · iexact Hat
    iexact Hc
  isplitl [Hx]; · iexact Hx
  iexact Hw
/-- The wait for a ring's quarter of the result. -/
theorem t_done (r : Fin 4) {O : CellTallies nD τ sig ℕ} (hO : Above 0 O) {Q : PUnit → sProp 𝕄} :
    iprop(Ctx m κ ∗ RLast (F := F) c r ∗ owing (F := F) c O)
      ⊢ iprop(((RDone m c r ∗ owing (F := F) c O) -∗ Q ⟨⟩) -∗ run c (stWait r) Q) := by
  unfold RLast RDone
  iintro ⟨#HC, ⟨⟨Has, Har, Hac⟩, Hp, Hat, Hc⟩, HO⟩ Hk
  iapply (t_stWait m κ c r hO) $$ [Hat Hc HO]
  · isplitr; · iexact HC
    isplitl [Hat]; · iexact Hat
    isplitl [Hc]; · iexact Hc
    iexact HO
  iintro ⟨Hat, -, ⟨Ho, Hs⟩, HO⟩
  iapply Hk
  isplitr [HO]
  · isplitl [Has Har Hac Hat]
    · isplitl [Has]; · iexact Has
      isplitl [Har]; · iexact Har
      isplitl [Hac]; · iexact Hac
      iexact Hat
    isplitl [Hs]; · iexact Hs
    isplitl [Hp]; · iexact Hp
    iexact Ho
  iexact HO

/-- Slot `h` for rows at the end. -/
def LDone (h : Fin 2) : sProp 𝕄 := iprop(at_ (F := F) c (.ld h) 8 ∗ xAny (F := F) c h ∗ xHbm m c h)
/-- After the last load, what is held of a row slot is its end state. -/
theorem ldone (h : Fin 2) (X : S1x1024x1024.Idx → Elt F .f32) : iprop(LOut m c h 7 ∗ xIs c h X) ⊢ LDone m c h := by
  unfold LOut LDone xIs xAny
  iintro ⟨⟨Ha, -, Hh⟩, %f, -, Hx⟩
  isplitl [Ha]; · iexact Ha
  isplitl [Hx]; · iexists f; iexact Hx
  iexact Hh

/-- The last step. -/
theorem t_lastStep (R : Rows) {Q : PUnit → sProp 𝕄} :
    iprop(Ctx m κ ∗ Mid m c 6 ∗ KLast (F := F) c 0 ∗ KLast (F := F) c 2 ∗ KLast (F := F) c 1 ∗ KLast (F := F) c 3)
      ⊢ iprop((((RDone m c 0 ∗ RDone m c 1 ∗ RDone m c 2 ∗ RDone m c 3) ∗ (LDone m c 0 ∗ LDone m c 1) ∗ wPts m c ∗ owing (F := F) c 0) -∗ Q ⟨⟩)
          -∗ run c (lastStep R) Q) := by
  have hs7 : 6 < 7 := by omega
  have h1 : 6 + 1 < 8 := by omega
  have hz : oweFrom c (4 * (6 + 1)) = 0 := oweFrom_end c
  unfold Mid lastStep KLast
  rw [hz]
  simp only [wp_bind]
  iintro ⟨#HC, ⟨⟨HR0, HR2, HR1, HR3⟩, ⟨HL0, HL1⟩, Hw, HO⟩, ⟨Hc0, HK0⟩, ⟨Hc2, HK2⟩, ⟨Hc1, HK1⟩, Hc3, HK3⟩ Hk
  -- ring 0
  iapply (t_arrive m κ c 0 hs7 (above_zero _) (above_zero _)) $$ [HR0 Hc0 HO]
  · isplitr; · iexact HC
    isplitl [HR0]; · iexact HR0
    isplitl [Hc0]; · iexact Hc0
    iexact HO
  iintro ⟨HR0, HO⟩
  iapply (t_rows m κ c 0 h1 R.o0 R.h0 (above_zero _)) $$ [HL0 HO]
  · isplitr; · iexact HC
    isplitl [HL0]; · iexact HL0
    iexact HO
  iintro ⟨HL0, Hx0, HO⟩
  iapply (t_last m κ c 0) $$ [HR0 HK0 Hx0 Hw]
  · isplitr; · iexact HC
    isplitl [HR0]; · iexact HR0
    isplitl [HK0]; · iexact HK0
    isplitl [Hx0]; · iexact Hx0
    iexact Hw
  iintro ⟨HR0, Hx0, Hw⟩
  -- ring 2
  iapply (t_arrive m κ c 2 hs7 (above_zero _) (above_zero _)) $$ [HR2 Hc2 HO]
  · isplitr; · iexact HC
    isplitl [HR2]; · iexact HR2
    isplitl [Hc2]; · iexact Hc2
    iexact HO
  iintro ⟨HR2, HO⟩
  iapply (t_rows m κ c 1 h1 R.o1 R.h1 (above_zero _)) $$ [HL1 HO]
  · isplitr; · iexact HC
    isplitl [HL1]; · iexact HL1
    iexact HO
  iintro ⟨HL1, Hx1, HO⟩
  iapply (t_last m κ c 2) $$ [HR2 HK2 Hx1 Hw]
  · isplitr; · iexact HC
    isplitl [HR2]; · iexact HR2
    isplitl [HK2]; · iexact HK2
    isplitl [Hx1]; · iexact Hx1
    iexact Hw
  iintro ⟨HR2, Hx1, Hw⟩
  -- ring 1
  iapply (t_arrive m κ c 1 hs7 (above_zero _) (above_zero _)) $$ [HR1 Hc1 HO]
  · isplitr; · iexact HC
    isplitl [HR1]; · iexact HR1
    isplitl [Hc1]; · iexact Hc1
    iexact HO
  iintro ⟨HR1, HO⟩
  iapply (t_last m κ c 1) $$ [HR1 HK1 Hx0 Hw]
  · isplitr; · iexact HC
    isplitl [HR1]; · iexact HR1
    isplitl [HK1]; · iexact HK1
    isplitl [Hx0]; · iexact Hx0
    iexact Hw
  iintro ⟨HR1, Hx0, Hw⟩
  -- ring 3
  iapply (t_arrive m κ c 3 hs7 (above_zero _) (above_zero _)) $$ [HR3 Hc3 HO]
  · isplitr; · iexact HC
    isplitl [HR3]; · iexact HR3
    isplitl [Hc3]; · iexact Hc3
    iexact HO
  iintro ⟨HR3, HO⟩
  iapply (t_last m κ c 3) $$ [HR3 HK3 Hx1 Hw]
  · isplitr; · iexact HC
    isplitl [HR3]; · iexact HR3
    isplitl [HK3]; · iexact HK3
    isplitl [Hx1]; · iexact Hx1
    iexact Hw
  iintro ⟨HR3, Hx1, Hw⟩
  -- the four quarters
  iapply (t_done m κ c 0 (above_zero _)) $$ [HR0 HO]
  · isplitr; · iexact HC
    isplitl [HR0]; · iexact HR0
    iexact HO
  iintro ⟨HR0, HO⟩
  iapply (t_done m κ c 1 (above_zero _)) $$ [HR1 HO]
  · isplitr; · iexact HC
    isplitl [HR1]; · iexact HR1
    iexact HO
  iintro ⟨HR1, HO⟩
  iapply (t_done m κ c 2 (above_zero _)) $$ [HR2 HO]
  · isplitr; · iexact HC
    isplitl [HR2]; · iexact HR2
    iexact HO
  iintro ⟨HR2, HO⟩
  iapply (t_done m κ c 3 (above_zero _)) $$ [HR3 HO]
  · isplitr; · iexact HC
    isplitl [HR3]; · iexact HR3
    iexact HO
  iintro ⟨HR3, HO⟩
  iapply Hk
  isplitl [HR0 HR1 HR2 HR3]
  · isplitl [HR0]; · iexact HR0
    isplitl [HR1]; · iexact HR1
    isplitl [HR2]; · iexact HR2
    iexact HR3
  isplitl [HL0 Hx0 HL1 Hx1]
  · isplitl [HL0 Hx0]
    · iapply (ldone m c 0 (xAt m c 7 0))
      isplitl [HL0]; · iexact HL0
      iexact Hx0
    · iapply (ldone m c 1 (xAt m c 7 1))
      isplitl [HL1]; · iexact HL1
      iexact Hx1
  isplitl [Hw]; · iexact Hw
  iexact HO

/-! ## The body -/

/-- What the launch hands a device. -/
def Given : sProp 𝕄 :=
  iprop(((rAny (F := F) c 0 ∗ rAny (F := F) c 1) ∗ rAny (F := F) c 2 ∗ rAny (F := F) c 3) ∗ BFirst (F := F) c ∗ WFirst m c
    ∗ (LFirst m c 0 ∗ LFirst m c 1) ∗ (RFirst (F := F) c 0 ∗ RFirst (F := F) c 2 ∗ RFirst (F := F) c 1 ∗ RFirst (F := F) c 3)
    ∗ bigSep (Finset.range 6) (fun s => Kits (F := F) c s)
    ∗ KLast (F := F) c 0 ∗ KLast (F := F) c 2 ∗ KLast (F := F) c 1 ∗ KLast (F := F) c 3)
/-- What the body leaves a device. -/
def Left : sProp 𝕄 :=
  iprop((RDone m c 0 ∗ RDone m c 1 ∗ RDone m c 2 ∗ RDone m c 3) ∗ (LDone m c 0 ∗ LDone m c 1) ∗ (wPts m c ∗ wHbm m c) ∗ at_ (F := F) c .bar 1 ∗ at_ (F := F) c .wl 1)

/-- The supplies of the six middle stages, listed. -/
theorem kits_list : bigSep (Finset.range 6) (fun s => Kits (F := F) c s)
    = iprop(Kits (F := F) c 0 ∗ Kits (F := F) c 1 ∗ Kits (F := F) c 2 ∗ Kits (F := F) c 3 ∗ Kits (F := F) c 4 ∗ Kits (F := F) c 5) := by
  rw [bigSep_eq_bigSepL_of_eq (S := Finset.range 6) [0, 1, 2, 3, 4, 5] (by decide) (by decide)]
  simp only [bigSepL_cons_cons, bigSepL_singleton]
  rfl

/-- The body on device `c`: from what it is given, with all its debts, to what it leaves, with none. -/
theorem t_body {Q : PUnit → sProp 𝕄} :
    iprop(Ctx m κ ∗ Given m c ∗ owing (F := F) c (owe0 c)) ⊢ iprop(((Left m c ∗ owing (F := F) c 0) -∗ Q ⟨⟩) -∗ run c body Q) := by
  unfold Given body
  rw [kits_list]
  iintro ⟨#HC, ⟨Hr, HB, HW, HL, HR, ⟨HK0, HK1, HK2, HK3, HK4, HK5⟩, HKL⟩, HO⟩ Hk
  simp only [Prog.lift, Prog.bind_op, Prog.bind_ret, wp_deviceId]
  simp only [wp_bind]
  iapply (t_prologue m κ c) $$ [Hr HB HW HL HR HO]
  · isplitr; · iexact HC
    isplitl [Hr]; · iexact Hr
    isplitl [HB]; · iexact HB
    isplitl [HW]; · iexact HW
    isplitl [HL]; · iexact HL
    isplitl [HR]; · iexact HR
    iexact HO
  iintro ⟨HM, Hbar, Hwl, Hwh⟩
  iapply (t_step m κ c (s := 0) (by omega) _ _ rfl) $$ [HM HK0]
  · isplitr; · iexact HC
    isplitl [HM]; · iexact HM
    iexact HK0
  iintro HM
  iapply (t_step m κ c (s := 1) (by omega) _ _ rfl) $$ [HM HK1]
  · isplitr; · iexact HC
    isplitl [HM]; · iexact HM
    iexact HK1
  iintro HM
  iapply (t_step m κ c (s := 2) (by omega) _ _ rfl) $$ [HM HK2]
  · isplitr; · iexact HC
    isplitl [HM]; · iexact HM
    iexact HK2
  iintro HM
  iapply (t_step m κ c (s := 3) (by omega) _ _ rfl) $$ [HM HK3]
  · isplitr; · iexact HC
    isplitl [HM]; · iexact HM
    iexact HK3
  iintro HM
  iapply (t_step m κ c (s := 4) (by omega) _ _ rfl) $$ [HM HK4]
  · isplitr; · iexact HC
    isplitl [HM]; · iexact HM
    iexact HK4
  iintro HM
  iapply (t_step m κ c (s := 5) (by omega) _ _ rfl) $$ [HM HK5]
  · isplitr; · iexact HC
    isplitl [HM]; · iexact HM
    iexact HK5
  iintro HM
  iapply (t_lastStep m κ c _) $$ [HM HKL]
  · isplitr; · iexact HC
    isplitl [HM]; · iexact HM
    iexact HKL
  iintro ⟨HR, HL, Hw, HO⟩
  iapply Hk
  isplitr [HO]
  · unfold Left
    isplitl [HR]; · iexact HR
    isplitl [HL]; · iexact HL
    isplitl [Hw Hwh]
    · isplitl [Hw]; · iexact Hw
      iexact Hwh
    isplitl [Hbar]; · iexact Hbar
    iexact Hwl
  iexact HO

end Cert.Rings

end
-- ==== Proof.Deal.lean ====
/-
What the launch deals: the cells' ghost state and invariants, the tokens to the devices that pay, the credits from what is
owed.
-/
module

public import proofs.«01_k».proof.Proof.Body
public import Idealize.SL.BI.BigOpNat

@[expose] public section

noncomputable section

namespace Cert.Rings

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-! ## Cells and tokens -/

/-- Different devices and kinds have different cells. -/
theorem cell_inj : Function.Injective (fun x : Dev nD × K => cell x.1 x.2) := fun x y h => by
  obtain ⟨c, k⟩ := x; obtain ⟨c', k'⟩ := y
  exact Prod.ext (congrArg (fun g : GSem nD τ sig => g.1.1) h) (csem_inj (congrArg Prod.snd h))
/-- Every device's cells. -/
def cells : Finset (GSem nD τ sig) := Finset.univ.map ⟨_, cell_inj⟩
/-- A family over all cells is a family over devices and kinds. -/
theorem over_cells (Φ : GSem nD τ sig → sProp 𝕄) :
    bigSep cells Φ = bigSep Finset.univ fun c : Dev nD => bigSep Finset.univ fun k : K => Φ (cell c k) := by
  unfold cells; rw [bigSep_map, bigSep_univ_prod]; rfl

/-- Pairs of a first component in `s` and a second in the set that the first gives. -/
def pairs {α β : Type} [DecidableEq α] [DecidableEq β] (s : Finset α) (t : α → Finset β) : Finset (α × β) :=
  s.biUnion fun a => (t a).map ⟨Prod.mk a, fun _ _ h => congrArg Prod.snd h⟩
/-- A family over the pairs is a family of families. -/
theorem over_pairs {α β : Type} [DecidableEq α] [DecidableEq β] (s : Finset α) (t : α → Finset β) (Φ : α × β → sProp 𝕄) :
    bigSep (pairs s t) Φ = bigSep s fun a => bigSep (t a) fun b => Φ (a, b) := by
  unfold pairs
  rw [bigSep_biUnion_eq]
  · exact bigSep_congr fun a _ => bigSep_map _
  · intro a _ a' _ hne
    rw [Finset.disjoint_left]
    intro x hx hx'
    obtain ⟨y, -, rfl⟩ := Finset.mem_map.mp hx
    obtain ⟨y', -, h⟩ := Finset.mem_map.mp hx'
    exact hne (congrArg Prod.fst h).symm
/-- Two families' order exchanged. -/
theorem exchange {α β : Type} [DecidableEq α] (s : Finset α) (t : Finset β) (Φ : α → β → sProp 𝕄) :
    (bigSep s fun a => bigSep t fun b => Φ a b) = bigSep t fun b => bigSep s fun a => Φ a b := by
  induction s using Finset.induction_on with
  | empty => simp only [bigSep_empty]; exact (BI.bigSep_emp_const t).symm
  | insert a s ha ih => simp only [bigSep_insert ha]; rw [ih, ← bigSep_sep]

/-- The duties of one device's cells: kind, round, name. -/
def works : Finset (K × ℕ × Bool) := pairs Finset.univ fun k : K => pairs (Finset.range (rounds k)) fun _ => names k
/-- A family over the duties of a device goes by kind, round and name. -/
theorem over_works (Φ : K × ℕ × Bool → sProp 𝕄) :
    bigSep works Φ = bigSep Finset.univ fun k : K => bigSep (Finset.range (rounds k)) fun t => bigSep (names k) fun d => Φ (k, t, d) := by
  unfold works
  rw [over_pairs]
  exact bigSep_congr fun k _ => over_pairs _ _ _

/-- Every device's duties, as the tokens of their cells. -/
def duty (x : Dev nD × K × ℕ × Bool) : GSem nD τ sig × ℕ × Bool := (cell x.1 x.2.1, x.2.2)
/-- Different duties have different tokens. -/
theorem duty_inj : Function.Injective duty := fun x y h => by
  obtain ⟨c, k, r⟩ := x; obtain ⟨c', k', r'⟩ := y
  have h1 := cell_inj (a₁ := (c, k)) (a₂ := (c', k')) (congrArg Prod.fst h)
  have h2 : r = r' := congrArg Prod.snd h
  cases h1; cases h2; rfl
def duties : Finset (GSem nD τ sig × ℕ × Bool) := (pairs Finset.univ fun _ : Dev nD => works).map ⟨duty, duty_inj⟩

/-- Whose cell of kind `k` a device raises by the duty named `d`. -/
def around : K → Bool → Dev nD ≃ Dev nD
  | .bar, true => ⟨lft, rgt, rgt_lft, lft_rgt⟩
  | .bar, false => ⟨rgt, lft, lft_rgt, rgt_lft⟩
  | .rcv r, _ => ⟨dn r, up r, up_dn r, dn_up r⟩
  | .cr r, _ => ⟨up r, dn r, dn_up r, up_dn r⟩
  | _, _ => Equiv.refl _

/-- The tokens that device `c` spends. -/
def dealt (c : Dev nD) : sProp 𝕄 :=
  bigSep Finset.univ fun k : K => bigSep (Finset.range (rounds k)) fun t => bigSep (names k) fun d => dutyTok ER (cell (around k d c) k) t d

/-- All tokens, dealt to the devices that spend them. -/
theorem duties_dealt :
    bigSep duties (fun x => (dutyTok ER x.1 x.2.1 x.2.2 : sProp 𝕄)) = bigSep Finset.univ fun c : Dev nD => dealt (F := F) c := by
  unfold duties
  rw [bigSep_map, over_pairs, exchange]
  refine (bigSep_congr (Ψ := fun j => bigSep Finset.univ fun c : Dev nD => dutyTok ER (cell (around j.1 j.2.2 c) j.1) j.2.1 j.2.2)
    fun j _ => bigSep_univ_equiv (around j.1 j.2.2) _).trans ?_
  rw [exchange]
  exact bigSep_congr fun c _ => over_works _

/-! ## Invariants -/

/-- What the rings' launch element gives device `c`. -/
def G (c : Dev nD) : sProp 𝕄 :=
  iprop((bigSep Finset.univ fun k : K => roundState ER (Rd m) (cell c k) 0)
    ∗ (bigSep Finset.univ fun k : K => reached ER (cell c k) 0)
    ∗ (bigSep Finset.univ fun k : K => at_ c k 0) ∗ dealt c)

/-- One launch element pays for every device's cells, marks and tokens. -/
theorem fund_rings : BI.own (ER (initOf cells duties)) ⊢ (|==> bigSep Finset.univ (G m) : sProp 𝕄) := by
  iintro HX
  imod (Rounds.fund ER (Rd m) cells duties) $$ HX with ⟨Hst, Hr, Hat, Htok⟩
  imodintro
  ihave Hst := (Entails.of_eq (over_cells fun g => roundState ER (Rd m) g 0)) $$ Hst
  ihave Hr := (Entails.of_eq (over_cells fun g => reached ER g 0)) $$ Hr
  ihave Hat := (Entails.of_eq (over_cells fun g => atPos ER g 0 ∅ 0)) $$ Hat
  ihave Htok := (Entails.of_eq duties_dealt) $$ Htok
  unfold G; simp only [bigSep_sep']
  isplitl [Hst]; · iexact Hst
  isplitl [Hr]; · iexact Hr
  isplitl [Hat]; · iexact Hat
  iexact Htok

/-- The kernel's own semaphores: all but the barrier. -/
abbrev Own : Type := {k : K // k ≠ K.bar}
def osem (k : Own) : SemLoc sig := csem k.1
/-- The kernel's own semaphores are distinct and are those that its launch scopes. -/
theorem ownSemFacts : Pipeline.OwnSemFacts cfg0.spec osem := by decide

/-- The own semaphores at zero and the barrier at zero are all twenty kinds at zero. -/
theorem own_sems (c : Dev nD) :
    iprop(Pipeline.ownSems0 (Ix := ℕ) (Name := ℕ) (U := UU) (Lvl := ℕ) (Val := Elt F) (τ := τ) osem c ∗ unscopedSems0 c)
      = (bigSep Finset.univ fun k : K => semVal (cell c k) 0 : sProp 𝕄) := by
  have h1 : (unscopedSems0 c : sProp 𝕄) = semVal (cell c .bar) 0 := by
    unfold unscopedSems0; rw [bigSep_eq_bigSepL_of_eq [SemLoc.reg barS] (by decide) (by decide)]; rfl
  have h2 : (Pipeline.ownSems0 (Ix := ℕ) (Name := ℕ) (U := UU) (Lvl := ℕ) (Val := Elt F) (τ := τ) osem c : sProp 𝕄)
      = bigSep (Finset.univ.filter (· ≠ K.bar)) fun k => semVal (cell c k) 0 := bigSep_subtype (· ≠ K.bar) fun k => semVal (cell c k) 0
  rw [h1, h2, bigSep_erase (Finset.mem_univ K.bar), Finset.filter_ne']
  show _ = iprop(semVal (cell c .bar) 0 ∗ bigSep (Finset.univ.erase K.bar) fun k => semVal (cell c k) 0)
  have swap (P Q : sProp 𝕄) : iprop(P ∗ Q) ⊢ iprop(Q ∗ P) := by iintro ⟨H, H'⟩; isplitl [H'] <;> iassumption
  exact BI.Entails.antisymm (swap _ _) (swap _ _)

/-- One device's cells become invariants. -/
theorem alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun k : K => iprop(∃ κ : ℕ, cellInv ER (Rd m) κ (cell c k)))
          ∗ (bigSep Finset.univ fun k : K => reached ER (cell c k) 0)
          ∗ (bigSep Finset.univ fun k : K => at_ c k 0) ∗ dealt c) := by
  unfold G
  iintro ⟨Ho, Hu, Hst, Hrest⟩
  ihave Hv := (Entails.of_eq (own_sems (F := F) c)) $$ [Ho Hu]
  · isplitl [Ho] <;> iassumption
  ihave H := (Entails.of_eq (bigSep_sep' Finset.univ (fun k : K => semVal (cell c k) 0) (fun k => roundState ER (Rd m) (cell c k) 0)).symm) $$ [Hv Hst]
  · isplitl [Hv] <;> iassumption
  imod (show (bigSep Finset.univ fun k : K => iprop(semVal (cell c k) 0 ∗ roundState ER (Rd m) (cell c k) 0))
      ⊢ (|={Set.univ}=> bigSep Finset.univ fun k : K => iprop(∃ κ : ℕ, cellInv ER (Rd m) κ (cell c k)) : sProp 𝕄) from
        (bigSep_mono fun k _ => (Rounds.body_intro ER (Rd m) (cell c k)).trans inv_alloc).trans (bigSep_fupd _ _)) $$ H with H
  imodintro
  isplitl [H] <;> iassumption

/-- What a device starts from, but for the levels: the records of all cells, its positions and its tokens. -/
def G' (c : Dev nD) : sProp 𝕄 :=
  iprop(∃ κ : Dev nD × K → ℕ,
    ((bigSep Finset.univ fun x : Dev nD × K => cellInv ER (Rd m) (κ x) (cell x.1 x.2)) ∗ bigSep Finset.univ fun x : Dev nD × K => reached ER (cell x.1 x.2) 0)
      ∗ (bigSep Finset.univ fun k : K => at_ c k 0) ∗ dealt c)

/-- Once the invariants are set up, every device may know every device's. -/
theorem share_records :
    (bigSep Finset.univ fun c => iprop((bigSep Finset.univ fun k : K => iprop(∃ κ : ℕ, cellInv ER (Rd m) κ (cell c k)))
          ∗ (bigSep Finset.univ fun k : K => reached ER (cell c k) 0)
          ∗ (bigSep Finset.univ fun k : K => at_ c k 0) ∗ dealt c) : sProp 𝕄) ⊢ bigSep Finset.univ (G' m) := by
  rw [bigSep_sep', bigSep_sep', ← bigSep_univ_prod (fun x : Dev nD × K => iprop(∃ κ : ℕ, cellInv ER (Rd m) κ (cell x.1 x.2))),
    ← bigSep_univ_prod (fun x : Dev nD × K => (reached ER (cell x.1 x.2) 0 : sProp 𝕄))]
  iintro ⟨HI, #HR, Hrest⟩
  ihave HK := (BI.bigSep_exists_pi Finset.univ (fun (x : Dev nD × K) (κ : ℕ) => (cellInv ER (Rd m) κ (cell x.1 x.2) : sProp 𝕄))) $$ HI
  icases HK with ⟨%κ, #HI⟩
  iapply (BI.bigSep_with_persistent
    (R := iprop((bigSep Finset.univ fun x : Dev nD × K => cellInv ER (Rd m) (κ x) (cell x.1 x.2)) ∗ bigSep Finset.univ fun x : Dev nD × K => reached ER (cell x.1 x.2) 0))
    (Φ := fun c => iprop((bigSep Finset.univ fun k : K => at_ c k 0) ∗ dealt c))
    fun c _ => by unfold G'; iintro ⟨#H, H'⟩; iexists κ; isplitr; · iexact H
                  iexact H')
  isplitr
  · isplitr <;> iassumption
  · iexact Hrest

/-- The step over all devices at once: cells to invariants, tokens to who spends them. -/
theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => alloc m c).trans (bigSep_fupd _ _)).trans (BI.fupd_mono (share_records m))

/-! ## Credits -/

/-- What a device may wait for once stage `t + 1` of the rings is through: the four transfers and their four credits. -/
def dues (c : Dev nD) (s : ℕ) : sProp 𝕄 :=
  bigSep Finset.univ fun p : Fin 4 => iprop(credit c (.rcv (order p)) (s + 1) N ∗ credit c (.cr (order p)) s 1)
/-- The transfers of the first stage. -/
def dues0 (c : Dev nD) : sProp 𝕄 := bigSep Finset.univ fun p : Fin 4 => credit c (.rcv (order p)) 0 N

/-- What upstream owes to a device's receive semaphore is that device's credit. -/
theorem cred_rcv (c : Dev nD) (r : Fin 4) (t n : ℕ) :
    (Pipeline.launchCred (fun d => tallyAt (cell (dn r d) (.rcv r)) t n) c : sProp 𝕄) ⊢ credit c (.rcv r) t n :=
  Pipeline.launchCred_tallyAt (csem (.rcv r)) (dn r) (up r) (dn_up r) (up_dn r) t n c
/-- What downstream owes to a device's credit semaphore is that device's credit. -/
theorem cred_cr (c : Dev nD) (r : Fin 4) (t n : ℕ) :
    (Pipeline.launchCred (fun d => tallyAt (cell (up r d) (.cr r)) t n) c : sProp 𝕄) ⊢ credit c (.cr r) t n :=
  Pipeline.launchCred_tallyAt (csem (.cr r)) (up r) (dn r) (up_dn r) (dn_up r) t n c

/-- A family over the four rings, listed. -/
theorem fins (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- One place of a later stage: its transfer and its credit. -/
theorem cred_step (c : Dev nD) (p : Fin 4) {t : ℕ} (h : t < 6) :
    (Pipeline.launchCred (fun d => oweFrom d (4 * (t + 1) + p.val)) c : sProp 𝕄)
      ⊢ iprop(Pipeline.launchCred (fun d => oweFrom d (4 * (t + 1) + p.val + 1)) c
          ∗ credit c (.rcv (order p)) (t + 1) N ∗ credit c (.cr (order p)) t 1) := by
  simp only [fun d => oweFrom_step d p h]
  rw [Pipeline.launchCred_add, Pipeline.launchCred_add]
  iintro ⟨⟨H, Hr⟩, Hc⟩
  isplitl [H]; · iexact H
  isplitl [Hr]
  · iapply (cred_rcv c); iexact Hr
  · iapply (cred_cr c); iexact Hc
/-- One place of the first stage: the credit for the transfer made there. -/
theorem cred_first (c : Dev nD) (p : Fin 4) {j : ℕ} (hj : p.val = j) :
    (Pipeline.launchCred (fun d => oweFrom d j) c : sProp 𝕄)
      ⊢ iprop(Pipeline.launchCred (fun d => oweFrom d (j + 1)) c ∗ credit c (.rcv (order p)) 0 N) := by
  subst hj
  simp only [fun d => oweFrom_first d p]
  rw [Pipeline.launchCred_add]
  iintro ⟨H, Hr⟩
  isplitl [H]; · iexact H
  iapply (cred_rcv c); iexact Hr

/-- A later stage. -/
theorem cred_stage (c : Dev nD) {t : ℕ} (h : t < 6) :
    (Pipeline.launchCred (fun d => oweFrom d (4 * (t + 1))) c : sProp 𝕄)
      ⊢ iprop(Pipeline.launchCred (fun d => oweFrom d (4 * (t + 2))) c ∗ dues c t) := by
  unfold dues; rw [fins]
  iintro H
  ihave H := (cred_step c 0 h) $$ H
  icases H with ⟨H, H0⟩
  ihave H := (cred_step c 1 h) $$ H
  icases H with ⟨H, H1⟩
  ihave H := (cred_step c 2 h) $$ H
  icases H with ⟨H, H2⟩
  ihave H := (cred_step c 3 h) $$ H
  icases H with ⟨H, H3⟩
  isplitl [H]; · iexact H
  isplitl [H0]; · iexact H0
  isplitl [H1]; · iexact H1
  isplitl [H2]; · iexact H2
  iexact H3

/-- All later stages. -/
theorem cred_stages (c : Dev nD) : ∀ n ≤ 6,
    (Pipeline.launchCred (fun d => oweFrom d 4) c : sProp 𝕄)
      ⊢ iprop(Pipeline.launchCred (fun d => oweFrom d (4 * (n + 1))) c ∗ bigSep (Finset.range n) fun s => dues c s)
  | 0, _ => by
      rw [Finset.range_zero, bigSep_empty]
      iintro H; isplitl; · iexact H
      iempintro
  | n + 1, h => by
      refine (cred_stages c n (by omega)).trans ?_
      rw [bigSep_range_succ]
      iintro ⟨H, Hs⟩
      ihave H := (cred_stage c (t := n) (by omega)) $$ H
      icases H with ⟨H, H'⟩
      isplitl [H]; · iexact H
      isplitl [H']; · iexact H'
      iexact Hs

/-- A family's first member and the rest, as its last member and the rest. -/
theorem turn (A : ℕ → sProp 𝕄) : ∀ n, iprop(A 0 ∗ bigSep (Finset.range n) fun s => A (s + 1)) ⊢ iprop((bigSep (Finset.range n) A) ∗ A n)
  | 0 => by
      rw [Finset.range_zero, bigSep_empty, bigSep_empty]; iintro ⟨H, -⟩; isplitr; · iempintro
      iexact H
  | n + 1 => by
      rw [bigSep_range_succ, bigSep_range_succ]
      iintro ⟨H0, Hn, H⟩
      ihave H := (turn A n) $$ [H0 H]
      · isplitl [H0] <;> iassumption
      icases H with ⟨H, Hm⟩
      isplitr [Hn]
      · isplitl [Hm] <;> iassumption
      · iexact Hn

/-- What comes of a device's due at launch: the barrier's two units, per stage the transfers and the credits. -/
theorem creds (c : Dev nD) :
    (Pipeline.launchCred owe0 c : sProp 𝕄)
      ⊢ iprop(credit c .bar 0 2
          ∗ (bigSep (Finset.range 6) fun s => bigSep Finset.univ fun p : Fin 4 => iprop(credit c (.rcv (order p)) s N ∗ credit c (.cr (order p)) s 1))
          ∗ bigSep Finset.univ fun p : Fin 4 => credit c (.rcv (order p)) 6 N) := by
  have h0 : (Pipeline.launchCred owe0 c : sProp 𝕄)
      = iprop((Pipeline.launchCred (fun d => oweFrom d 0) c ∗ Pipeline.launchCred (fun d => tallyAt (cell (rgt d) .bar) 0 1) c)
          ∗ Pipeline.launchCred (fun d => tallyAt (cell (lft d) .bar) 0 1) c) := by
    unfold owe0 owe1; rw [Pipeline.launchCred_add, Pipeline.launchCred_add]
  rw [h0]
  iintro ⟨⟨H, HR⟩, HL⟩
  ihave HR := (Pipeline.launchCred_tallyAt (csem .bar) rgt lft rgt_lft lft_rgt 0 1 c) $$ HR
  ihave HL := (Pipeline.launchCred_tallyAt (csem .bar) lft rgt lft_rgt rgt_lft 0 1 c) $$ HL
  isplitl [HR HL]
  · unfold credit
    rw [show (2 : ℕ) = 1 + 1 from rfl, ← tallyAt_add]
    iapply (cred_add _ _).2
    isplitl [HR] <;> iassumption
  ihave H := (cred_first c 0 (j := 0) rfl) $$ H
  icases H with ⟨H, H0⟩
  ihave H := (cred_first c 1 (j := 1) rfl) $$ H
  icases H with ⟨H, H1⟩
  ihave H := (cred_first c 2 (j := 2) rfl) $$ H
  icases H with ⟨H, H2⟩
  ihave H := (cred_first c 3 (j := 3) rfl) $$ H
  icases H with ⟨H, H3⟩
  ihave H := (cred_stages c 6 le_rfl) $$ H
  icases H with ⟨-, H⟩
  unfold dues
  simp only [bigSep_sep']
  icases H with ⟨Hr, Hc⟩
  ihave H := (turn (fun s => bigSep Finset.univ fun p : Fin 4 => credit c (.rcv (order p)) s N) 6) $$ [H0 H1 H2 H3 Hr]
  · isplitl [H0 H1 H2 H3]
    · rw [fins]
      isplitl [H0]; · iexact H0
      isplitl [H1]; · iexact H1
      isplitl [H2]; · iexact H2
      iexact H3
    · iexact Hr
  icases H with ⟨H, H6⟩
  isplitr [H6]
  · isplitl [H] <;> iassumption
  · iexact H6

end Cert.Rings

end
-- ==== Proof.Ends.lean ====
/-
What a device's program starts from, put together of what the launch deals, and its end taken apart: the buffers cut into
slots and joined, the positions, tokens and credits given to the rings, the semaphores handed back.
-/
module

public import proofs.«01_k».proof.Proof.Deal

@[expose] public section

noncomputable section

namespace Cert.Rings

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-! ## Buffers cut into slots -/

section Cut
variable {ℓ : Loc nD τ sig} {n : ℕ} (S : Fin n → Finset (Idx ℓ)) (key : Idx ℓ → Fin n) (hS : ∀ t i, i ∈ S t ↔ key i = t)
include hS

/-- Different slots share no position. -/
theorem slots_disjoint : ∀ t ∈ (Finset.univ : Finset (Fin n)), ∀ t' ∈ (Finset.univ : Finset (Fin n)), t ≠ t' → Disjoint (S t) (S t') :=
  fun t _ t' _ hne => Finset.disjoint_left.mpr fun i hi hi' => hne (((hS t i).mp hi).symm.trans ((hS t' i).mp hi'))
/-- The slots cover the buffer. -/
theorem slots_cover : Finset.univ.biUnion S = Finset.univ :=
  Finset.eq_univ_of_forall fun i => Finset.mem_biUnion.mpr ⟨key i, Finset.mem_univ _, (hS _ i).mpr rfl⟩
/-- A buffer is its slots. -/
theorem slots_cut (q : PosShare TreeShare) (f : Buf (Elt F) ℓ) :
    (ℓ ↦{q} f : sProp 𝕄) = bigSep Finset.univ fun t => ℓ ↦[S t]{q} f := by
  rw [← pointsTo_biUnion _ _ (slots_disjoint S key hS), slots_cover S key hS]
/-- Slots, each at contents of its own, are the buffer at contents that agree with each. -/
theorem slots_join (q : PosShare TreeShare) (fs : Fin n → Buf (Elt F) ℓ) (f₀ : Buf (Elt F) ℓ) :
    (bigSep Finset.univ fun t => (ℓ ↦[S t]{q} fs t : sProp 𝕄)) ⊢ iprop(∃ g, ⌜∀ t, ∀ i ∈ S t, g i = fs t i⌝ ∗ ℓ ↦{q} g) := by
  have key := pointsTo_biUnion_join (Ix := ℕ) (Name := ℕ) (U := UU) (Lvl := ℕ) (q := q) Finset.univ S fs f₀ (slots_disjoint S key hS)
  rw [slots_cover S _ hS] at key
  iintro H
  ihave H := key $$ H
  icases H with ⟨%g, %h, H⟩
  iexists g
  isplitr
  · ipureintro; exact fun t => h t (Finset.mem_univ t)
  · iexact H
/-- A buffer at some contents is its slots, each at some contents. -/
theorem slots_cut_any (q : PosShare TreeShare) :
    iprop(∃ f : Buf (Elt F) ℓ, ℓ ↦{q} f) ⊢ (bigSep Finset.univ fun t => iprop(∃ f, ℓ ↦[S t]{q} f) : sProp 𝕄) := by
  iintro ⟨%f, H⟩
  ihave H := (Entails.of_eq (slots_cut (F := F) S key hS q f)) $$ H
  iapply (show (bigSep Finset.univ fun t => (ℓ ↦[S t]{q} f : sProp 𝕄)) ⊢ bigSep Finset.univ fun t => iprop(∃ f, ℓ ↦[S t]{q} f) from
    bigSep_mono fun t _ => show (ℓ ↦[S t]{q} f : sProp 𝕄) ⊢ iprop(∃ f, ℓ ↦[S t]{q} f) by iintro H; iexists f; iexact H)
  iexact H
/-- Slots that hold anything make up a buffer that holds something. -/
theorem slots_join_any (t₀ : Fin n) (q : PosShare TreeShare) [Nonempty (Buf (Elt F) ℓ)] :
    (bigSep Finset.univ fun t => iprop(∃ f, ℓ ↦[S t]{q} f) : sProp 𝕄) ⊢ iprop(∃ f : Buf (Elt F) ℓ, ℓ ↦{q} f) := by
  iintro H
  ihave H := (BI.bigSep_exists_pi Finset.univ (fun t (f : Buf (Elt F) ℓ) => (ℓ ↦[S t]{q} f : sProp 𝕄))) $$ H
  icases H with ⟨%fs, H⟩
  ihave H := (slots_join (F := F) S key hS q fs (fs t₀)) $$ H
  icases H with ⟨%g, -, H⟩
  iexists g; iexact H
end Cut

/-- A position of a stack of four lies in slot `r` when its first index is `r`. -/
theorem mem_slot4 (r : Fin 4) (i : S4x1024x1024.Idx) : i ∈ (slot4 r).set ↔ i 0 = r := by
  rw [Rect.mem_set_unit]
  constructor
  · intro h
    have h0 := h 0
    apply Fin.ext
    have e1 : (![r.val, 0, 0] : Fin 3 → ℕ) 0 = r.val := rfl
    have e2 : S1x1024x1024.size 0 = 1 := rfl
    rw [e1, e2] at h0
    omega
  · rintro rfl a
    have hi := (i a).isLt
    fin_cases a
    · exact ⟨le_rfl, Nat.lt_succ_self _⟩
    · exact ⟨Nat.zero_le _, by show (i 1).val < 0 + 1024; have : (i 1).val < 1024 := (i 1).isLt; omega⟩
    · exact ⟨Nat.zero_le _, by show (i 2).val < 0 + 1024; have : (i 2).val < 1024 := (i 2).isLt; omega⟩
/-- A position of a stack of two lies in slot `h` when its first index is `h`. -/
theorem mem_slot2 (h : Fin 2) (i : S2x1024x1024.Idx) : i ∈ (slot2 h).set ↔ i 0 = h := by
  rw [Rect.mem_set_unit]
  constructor
  · intro h'
    have h0 := h' 0
    apply Fin.ext
    have e1 : (![h.val, 0, 0] : Fin 3 → ℕ) 0 = h.val := rfl
    have e2 : S1x1024x1024.size 0 = 1 := rfl
    rw [e1, e2] at h0
    omega
  · rintro rfl a
    fin_cases a
    · exact ⟨le_rfl, Nat.lt_succ_self _⟩
    · exact ⟨Nat.zero_le _, by show (i 1).val < 0 + 1024; have : (i 1).val < 1024 := (i 1).isLt; omega⟩
    · exact ⟨Nat.zero_le _, by show (i 2).val < 0 + 1024; have : (i 2).val < 1024 := (i 2).isLt; omega⟩
/-- The quarter that a column lies in. -/
def quarter (i : S1024x4096.Idx) : Fin 4 := ⟨(i 1).val / 1024, by have : (i 1).val < 4096 := (i 1).isLt; omega⟩
/-- A position of the result lies in column quarter `r` when its column does. -/
theorem mem_cols (r : Fin 4) (i : S1024x4096.Idx) : i ∈ (cols r).set ↔ quarter i = r := by
  rw [Rect.mem_set_unit]
  have h1 : (i 1).val < 4096 := (i 1).isLt
  constructor
  · intro h
    have h0 := h 1
    apply Fin.ext
    have e1 : (![0, 1024 * r.val] : Fin 2 → ℕ) 1 = 1024 * r.val := rfl
    have e2 : S1024x1024.size 1 = 1024 := rfl
    rw [e1, e2] at h0
    show (i 1).val / 1024 = r.val
    omega
  · rintro rfl a
    fin_cases a
    · exact ⟨Nat.zero_le _, by show (i 0).val < 0 + 1024; have : (i 0).val < 1024 := (i 0).isLt; omega⟩
    · show 1024 * ((i 1).val / 1024) ≤ (i 1).val ∧ (i 1).val < 1024 * ((i 1).val / 1024) + 1024
      omega

/-- Send slot `r` is the positions with first index `r`. -/
theorem sV_mem (r : Fin 4) (i : S4x1024x1024.Idx) : i ∈ (sV r).view.set ↔ i 0 = r := by
  rw [sV_set, View.set_slice_whole]; exact mem_slot4 r i
/-- Receive slot `r` is the positions with first index `r`. -/
theorem rV_mem (r : Fin 4) (i : S4x1024x1024.Idx) : i ∈ (rV r).view.set ↔ i 0 = r := by
  rw [rV_set, View.set_slice_whole]; exact mem_slot4 r i
/-- Row slot `h` is the positions with first index `h`. -/
theorem xV_mem (h : Fin 2) (i : S2x1024x1024.Idx) : i ∈ (xV h).view.set ↔ i 0 = h := by
  rw [xV_set, View.set_slice_whole]; exact mem_slot2 h i
/-- Quarter `r` of the result is the positions with column in that quarter. -/
theorem oV_mem (r : Fin 4) (i : S1024x4096.Idx) : i ∈ (oV r).view.set ↔ quarter i = r := by
  rw [View.set_slice_whole]; exact mem_cols r i

section Buffers
variable (c : Dev nD)

/-- The send buffer, cut into its four slots. -/
theorem s_cut : iprop(∃ f : Buf (Elt F) ((c : Thread nD τ).loc cc0_scratch2), ((c : Thread nD τ).loc cc0_scratch2) ↦{fullShare} f)
    ⊢ (bigSep Finset.univ fun r : Fin 4 => sAny (F := F) c r : sProp 𝕄) := by
  unfold sAny sPts; exact slots_cut_any (F := F) (ℓ := (c : Thread nD τ).loc cc0_scratch2) (fun r => (sV r).view.set) (fun i => i 0) sV_mem fullShare
/-- The four send slots, joined. -/
theorem s_join : (bigSep Finset.univ fun r : Fin 4 => sAny (F := F) c r : sProp 𝕄)
    ⊢ iprop(∃ f : Buf (Elt F) ((c : Thread nD τ).loc cc0_scratch2), ((c : Thread nD τ).loc cc0_scratch2) ↦{fullShare} f) := by
  unfold sAny sPts; exact slots_join_any (F := F) (ℓ := (c : Thread nD τ).loc cc0_scratch2) (fun r => (sV r).view.set) (fun i => i 0) sV_mem 0 fullShare
/-- The receive buffer, cut into its four slots. -/
theorem r_cut : iprop(∃ f : Buf (Elt F) ((c : Thread nD τ).loc cc0_scratch3), ((c : Thread nD τ).loc cc0_scratch3) ↦{fullShare} f)
    ⊢ (bigSep Finset.univ fun r : Fin 4 => rAny (F := F) c r : sProp 𝕄) := by
  unfold rAny rPts; exact slots_cut_any (F := F) (ℓ := (c : Thread nD τ).loc cc0_scratch3) (fun r => (rV r).view.set) (fun i => i 0) rV_mem fullShare
/-- The four receive slots, joined. -/
theorem r_join : (bigSep Finset.univ fun r : Fin 4 => rAny (F := F) c r : sProp 𝕄)
    ⊢ iprop(∃ f : Buf (Elt F) ((c : Thread nD τ).loc cc0_scratch3), ((c : Thread nD τ).loc cc0_scratch3) ↦{fullShare} f) := by
  unfold rAny rPts; exact slots_join_any (F := F) (ℓ := (c : Thread nD τ).loc cc0_scratch3) (fun r => (rV r).view.set) (fun i => i 0) rV_mem 0 fullShare
/-- The row buffer, cut into its two slots. -/
theorem x_cut : iprop(∃ f : Buf (Elt F) ((c : Thread nD τ).loc cc0_scratch0), ((c : Thread nD τ).loc cc0_scratch0) ↦{fullShare} f)
    ⊢ (bigSep Finset.univ fun h : Fin 2 => xAny (F := F) c h : sProp 𝕄) := by
  unfold xAny xPts; exact slots_cut_any (F := F) (ℓ := (c : Thread nD τ).loc cc0_scratch0) (fun h => (xV h).view.set) (fun i => i 0) xV_mem fullShare
/-- The two row slots, joined. -/
theorem x_join : (bigSep Finset.univ fun h : Fin 2 => xAny (F := F) c h : sProp 𝕄)
    ⊢ iprop(∃ f : Buf (Elt F) ((c : Thread nD τ).loc cc0_scratch0), ((c : Thread nD τ).loc cc0_scratch0) ↦{fullShare} f) := by
  unfold xAny xPts; exact slots_join_any (F := F) (ℓ := (c : Thread nD τ).loc cc0_scratch0) (fun h => (xV h).view.set) (fun i => i 0) xV_mem 0 fullShare
/-- The result, cut into its four column quarters. -/
theorem o_cut (f : Buf (Elt F) ((c : Thread nD τ).loc main_v1)) : (((c : Thread nD τ).loc main_v1) ↦{fullShare} f)
    ⊢ (bigSep Finset.univ fun r : Fin 4 => oAny (F := F) c r : sProp 𝕄) := by
  unfold oAny oPts
  iintro H
  iapply (slots_cut_any (F := F) (ℓ := (c : Thread nD τ).loc main_v1) (fun r => (oV r).view.set) quarter oV_mem fullShare)
  iexists f; iexact H
/-- The result's quarters joined hold what each held. -/
theorem o_join (v : Fin 4 → S1024x1024.Idx → Elt F .f32) : (bigSep Finset.univ fun r : Fin 4 => oIs (F := F) c r (v r) : sProp 𝕄)
    ⊢ iprop(∃ f : Buf (Elt F) ((c : Thread nD τ).loc main_v1), ⌜∀ r, oGet r f = v r⌝ ∗ ((c : Thread nD τ).loc main_v1) ↦{fullShare} f) := by
  have read (r : Fin 4) (f g : Buf (Elt F) ((c : Thread nD τ).loc main_v1)) (h : ∀ i ∈ (oV r).view.set, g i = f i) : oGet r g = oGet r f :=
    funext fun x => h _ (Finset.mem_map.mpr ⟨x, Finset.mem_univ _, rfl⟩)
  rw [fins]
  unfold oIs oPts
  iintro ⟨⟨%f0, %h0, H0⟩, ⟨%f1, %h1, H1⟩, ⟨%f2, %h2, H2⟩, %f3, %h3, H3⟩
  ihave H := (slots_join (F := F) (ℓ := (c : Thread nD τ).loc main_v1) (fun r => (oV r).view.set) quarter oV_mem fullShare
    (fun r => match r with | 0 => f0 | 1 => f1 | 2 => f2 | 3 => f3) f0) $$ [H0 H1 H2 H3]
  · rw [fins]
    isplitl [H0]; · iexact H0
    isplitl [H1]; · iexact H1
    isplitl [H2]; · iexact H2
    iexact H3
  icases H with ⟨%g, %hg, H⟩
  iexists g
  isplitr
  · ipureintro
    intro r
    match r with
    | 0 => exact (read 0 f0 g (hg 0)).trans h0
    | 1 => exact (read 1 f1 g (hg 1)).trans h1
    | 2 => exact (read 2 f2 g (hg 2)).trans h2
    | 3 => exact (read 3 f3 g (hg 3)).trans h3
  · iexact H

/-- The device's `x`, whole, and its two halves. -/
theorem x_halves : (((c : Thread nD τ).loc main_arg0) ↦{fullShare} m ((c : Thread nD τ).loc main_arg0) : sProp 𝕄) ⊣⊢ iprop(xHbm m c 0 ∗ xHbm m c 1) :=
  pointsTo_share (PosShare.mem_left_op_right fullShare)

end Buffers

/-! ## Families over the kinds of semaphores -/

/-- A family over the twenty kinds, listed. -/
theorem kinds_list (Φ : K → sProp 𝕄) : bigSep Finset.univ Φ
    = iprop(Φ .bar ∗ Φ .wl ∗ Φ (.ld 0) ∗ Φ (.ld 1) ∗ Φ (.st 0) ∗ Φ (.st 1) ∗ Φ (.st 2) ∗ Φ (.st 3) ∗ Φ (.snd 0) ∗ Φ (.snd 1) ∗ Φ (.snd 2) ∗ Φ (.snd 3) ∗ Φ (.rcv 0) ∗ Φ (.rcv 1) ∗ Φ (.rcv 2) ∗ Φ (.rcv 3) ∗ Φ (.cr 0) ∗ Φ (.cr 1) ∗ Φ (.cr 2) ∗ Φ (.cr 3)) :=
  bigSep_univ_eq_bigSepL K.all (by decide) (by decide) Φ

/-- A family over the kinds, per kind. -/
theorem kinds_open (Φ : K → sProp 𝕄) : bigSep Finset.univ Φ
    ⊢ iprop(Φ .bar ∗ Φ .wl ∗ (Φ (.ld 0) ∗ Φ (.ld 1)) ∗ (bigSep Finset.univ fun r : Fin 4 => Φ (.st r)) ∗ (bigSep Finset.univ fun r : Fin 4 => Φ (.snd r))
        ∗ (bigSep Finset.univ fun r : Fin 4 => Φ (.rcv r)) ∗ bigSep Finset.univ fun r : Fin 4 => Φ (.cr r)) := by
  rw [kinds_list]
  simp only [fins]
  iintro ⟨Hb, Hw, Hl0, Hl1, Ht0, Ht1, Ht2, Ht3, Hs0, Hs1, Hs2, Hs3, Hr0, Hr1, Hr2, Hr3, Hc⟩
  isplitl [Hb]; · iexact Hb
  isplitl [Hw]; · iexact Hw
  isplitl [Hl0 Hl1]
  · isplitl [Hl0]; · iexact Hl0
    iexact Hl1
  isplitl [Ht0 Ht1 Ht2 Ht3]
  · isplitl [Ht0]; · iexact Ht0
    isplitl [Ht1]; · iexact Ht1
    isplitl [Ht2]; · iexact Ht2
    iexact Ht3
  isplitl [Hs0 Hs1 Hs2 Hs3]
  · isplitl [Hs0]; · iexact Hs0
    isplitl [Hs1]; · iexact Hs1
    isplitl [Hs2]; · iexact Hs2
    iexact Hs3
  isplitl [Hr0 Hr1 Hr2 Hr3]
  · isplitl [Hr0]; · iexact Hr0
    isplitl [Hr1]; · iexact Hr1
    isplitl [Hr2]; · iexact Hr2
    iexact Hr3
  iexact Hc
/-- The parts per kind make up the family over all kinds. -/
theorem kinds_close (Φ : K → sProp 𝕄) :
    iprop(Φ .bar ∗ Φ .wl ∗ (Φ (.ld 0) ∗ Φ (.ld 1)) ∗ (bigSep Finset.univ fun r : Fin 4 => Φ (.st r)) ∗ (bigSep Finset.univ fun r : Fin 4 => Φ (.snd r))
        ∗ (bigSep Finset.univ fun r : Fin 4 => Φ (.rcv r)) ∗ bigSep Finset.univ fun r : Fin 4 => Φ (.cr r)) ⊢ bigSep Finset.univ Φ := by
  rw [kinds_list]
  simp only [fins]
  iintro ⟨Hb, Hw, ⟨Hl0, Hl1⟩, ⟨Ht0, Ht1, Ht2, Ht3⟩, ⟨Hs0, Hs1, Hs2, Hs3⟩, ⟨Hr0, Hr1, Hr2, Hr3⟩, Hc⟩
  isplitl [Hb]; · iexact Hb
  isplitl [Hw]; · iexact Hw
  isplitl [Hl0]; · iexact Hl0
  isplitl [Hl1]; · iexact Hl1
  isplitl [Ht0]; · iexact Ht0
  isplitl [Ht1]; · iexact Ht1
  isplitl [Ht2]; · iexact Ht2
  isplitl [Ht3]; · iexact Ht3
  isplitl [Hs0]; · iexact Hs0
  isplitl [Hs1]; · iexact Hs1
  isplitl [Hs2]; · iexact Hs2
  isplitl [Hs3]; · iexact Hs3
  isplitl [Hr0]; · iexact Hr0
  isplitl [Hr1]; · iexact Hr1
  isplitl [Hr2]; · iexact Hr2
  isplitl [Hr3]; · iexact Hr3
  iexact Hc

/-- A family's first member and the rest. -/
theorem front (A : ℕ → sProp 𝕄) (n : ℕ) {k : ℕ} (hk : k = n + 1) : bigSep (Finset.range k) A ⊢ iprop(A 0 ∗ bigSep (Finset.range n) fun s => A (s + 1)) := by
  subst hk
  induction n with
  | zero => rw [bigSep_range_succ, Finset.range_zero, bigSep_empty, bigSep_empty]
  | succ n ih =>
      rw [bigSep_range_succ (n + 1) A, bigSep_range_succ n fun s => A (s + 1)]
      iintro ⟨Hn, H⟩
      ihave H := ih $$ H
      icases H with ⟨H0, H⟩
      isplitl [H0]; · iexact H0
      isplitl [Hn]; · iexact Hn
      iexact H

/-- The same for four families. -/
theorem fronts (A : Fin 4 → ℕ → sProp 𝕄) (n : ℕ) {k : ℕ} (hk : k = n + 1) :
    (bigSep Finset.univ fun r => bigSep (Finset.range k) (A r))
      ⊢ iprop((bigSep Finset.univ fun r => A r 0) ∗ bigSep (Finset.range n) fun s => bigSep Finset.univ fun r => A r (s + 1)) := by
  rw [← exchange Finset.univ (Finset.range n) fun (r : Fin 4) s => A r (s + 1), ← bigSep_sep']
  exact bigSep_mono fun r _ => front (A r) n hk

/-! ## The tokens a device spends, as the rings use them -/

section Tokens
variable (c : Dev nD)

/-- Those of one kind with one duty per round. -/
theorem tokens_one (k : K) (h : names k = {false}) :
    (bigSep (Finset.range (rounds k)) fun t => bigSep (names k) fun d => (dutyTok ER (cell (around k d c) k) t d : sProp 𝕄))
      = bigSep (Finset.range (rounds k)) fun t => tok (around k false c) k t :=
  bigSep_congr fun t _ => by rw [h, bigSep_singleton]

/-- The tokens of a step of the rings. -/
def stepToks (s : ℕ) : sProp 𝕄 :=
  iprop((bigSep Finset.univ fun r : Fin 4 => tok (F := F) (up r c) (.cr r) s) ∗ (bigSep Finset.univ fun r : Fin 4 => tok (F := F) c (.snd r) (s + 1))
    ∗ (bigSep Finset.univ fun r : Fin 4 => tok (F := F) (dn r c) (.rcv r) (s + 1)) ∗ tok (F := F) c (.ld 0) (s + 2) ∗ tok (F := F) c (.ld 1) (s + 2))

/-- All the tokens of a device: its signals to the neighbours' barriers, the copy of `w`, the first two loads per slot, the
    rings' first transfers, the steps', and the result's copies. -/
theorem tokens_open : dealt (F := F) c
    ⊢ iprop((dutyTok ER (cell (rgt c) .bar) 0 false ∗ dutyTok ER (cell (lft c) .bar) 0 true) ∗ tok (F := F) c .wl 0
        ∗ ((tok (F := F) c (.ld 0) 0 ∗ tok (F := F) c (.ld 0) 1) ∗ tok (F := F) c (.ld 1) 0 ∗ tok (F := F) c (.ld 1) 1)
        ∗ (bigSep Finset.univ fun r : Fin 4 => tok (F := F) c (.st r) 0)
        ∗ (bigSep Finset.univ fun r : Fin 4 => tok (F := F) c (.snd r) 0) ∗ (bigSep Finset.univ fun r : Fin 4 => tok (F := F) (dn r c) (.rcv r) 0)
        ∗ bigSep (Finset.range 6) fun s => stepToks (F := F) c s) := by
  have one (A : ℕ → sProp 𝕄) : bigSep (Finset.range 1) A = A 0 := by rw [Finset.range_one, bigSep_singleton]
  unfold dealt
  refine (kinds_open _).trans ?_
  rw [tokens_one c .wl rfl, tokens_one c (.ld 0) rfl, tokens_one c (.ld 1) rfl]
  simp only [fun r => tokens_one (F := F) c (.st r) rfl, fun r => tokens_one (F := F) c (.snd r) rfl, fun r => tokens_one (F := F) c (.rcv r) rfl,
    fun r => tokens_one (F := F) c (.cr r) rfl]
  simp only [rounds, one, around, Equiv.refl_apply, Equiv.coe_fn_mk]
  have bars : (bigSep (names .bar) fun d => (dutyTok ER (cell (around .bar d c) .bar) 0 d : sProp 𝕄))
      = iprop(dutyTok ER (cell (rgt c) .bar) 0 false ∗ dutyTok ER (cell (lft c) .bar) 0 true) := by
    show bigSep Finset.univ _ = _
    rw [bigSep_univ_eq_bigSepL [false, true] (by decide) (by decide), bigSepL_cons_cons, bigSepL_singleton]; rfl
  iintro ⟨Hb, Hw, ⟨Hl0, Hl1⟩, Ht, Hs, Hr, Hc⟩
  isplitl [Hb]
  · iapply (Entails.of_eq bars); iexact Hb
  isplitl [Hw]; · iexact Hw
  ihave Hl0 := (front (fun t => tok (F := F) c (.ld 0) t) 7 rfl) $$ Hl0
  icases Hl0 with ⟨Hl00, Hl0⟩
  ihave Hl0 := (front (fun t => tok (F := F) c (.ld 0) (t + 1)) 6 rfl) $$ Hl0
  icases Hl0 with ⟨Hl01, Hl0⟩
  ihave Hl1 := (front (fun t => tok (F := F) c (.ld 1) t) 7 rfl) $$ Hl1
  icases Hl1 with ⟨Hl10, Hl1⟩
  ihave Hl1 := (front (fun t => tok (F := F) c (.ld 1) (t + 1)) 6 rfl) $$ Hl1
  icases Hl1 with ⟨Hl11, Hl1⟩
  isplitl [Hl00 Hl01 Hl10 Hl11]
  · isplitl [Hl00 Hl01]
    · isplitl [Hl00]; · iexact Hl00
      iexact Hl01
    isplitl [Hl10]; · iexact Hl10
    iexact Hl11
  isplitl [Ht]; · iexact Ht
  ihave Hs := (fronts (fun r t => tok (F := F) c (.snd r) t) 6 rfl) $$ Hs
  icases Hs with ⟨Hs0, Hs⟩
  isplitl [Hs0]; · iexact Hs0
  ihave Hr := (fronts (fun r t => tok (F := F) (dn r c) (.rcv r) t) 6 rfl) $$ Hr
  icases Hr with ⟨Hr0, Hr⟩
  isplitl [Hr0]; · iexact Hr0
  unfold stepToks
  simp only [bigSep_sep']
  isplitl [Hc]
  · iapply (Entails.of_eq (exchange Finset.univ (Finset.range 6) fun (r : Fin 4) s => tok (F := F) (up r c) (.cr r) s)); iexact Hc
  isplitl [Hs]; · iexact Hs
  isplitl [Hr]; · iexact Hr
  isplitl [Hl0]; · iexact Hl0
  iexact Hl1

/-- A step's tokens and credits are what its four rings take. -/
theorem kits_intro (s : ℕ) :
    iprop(stepToks (F := F) c s ∗ bigSep Finset.univ fun p : Fin 4 => iprop(credit (F := F) c (.rcv (order p)) s N ∗ credit (F := F) c (.cr (order p)) s 1))
      ⊢ Kits (F := F) c s := by
  unfold stepToks Kits Kit Spend
  simp only [fins]
  iintro ⟨⟨⟨Ha0, Ha1, Ha2, Ha3⟩, ⟨Hb0, Hb1, Hb2, Hb3⟩, ⟨Hc0, Hc1, Hc2, Hc3⟩, Hd0, Hd1⟩, ⟨He0, Hf0⟩, ⟨He1, Hf1⟩, ⟨He2, Hf2⟩, He3, Hf3⟩
  isplitr [Hd0 Hd1]
  · isplitl [He0 Hf0 Ha0 Hb0 Hc0]
    · isplitl [He0]; · iexact He0
      isplitl [Hf0]; · iexact Hf0
      isplitl [Ha0]; · iexact Ha0
      isplitl [Hb0]; · iexact Hb0
      iexact Hc0
    isplitl [He1 Hf1 Ha2 Hb2 Hc2]
    · isplitl [He1]; · iexact He1
      isplitl [Hf1]; · iexact Hf1
      isplitl [Ha2]; · iexact Ha2
      isplitl [Hb2]; · iexact Hb2
      iexact Hc2
    isplitl [He2 Hf2 Ha1 Hb1 Hc1]
    · isplitl [He2]; · iexact He2
      isplitl [Hf2]; · iexact Hf2
      isplitl [Ha1]; · iexact Ha1
      isplitl [Hb1]; · iexact Hb1
      iexact Hc1
    isplitl [He3]; · iexact He3
    isplitl [Hf3]; · iexact Hf3
    isplitl [Ha3]; · iexact Ha3
    isplitl [Hb3]; · iexact Hb3
    iexact Hc3
  · isplitl [Hd0]; · iexact Hd0
    iexact Hd1

end Tokens

end Cert.Rings

end
-- ==== Proof.Launch.lean ====
/-
The launch: what a device starts from and ends with, the body between, and the run of @main on all devices.
-/
module

public import proofs.«01_k».proof.Proof.Ends
public import Idealize.ShloMosaic.Lib.Pipeline.CollectiveSegs

@[expose] public section

noncomputable section

namespace Cert.Rings

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-! ## A device's start and end -/

section Device
variable (c : Dev nD)

/-- The credits of a device. -/
def credits : sProp 𝕄 :=
  iprop(credit (F := F) c .bar 0 2
    ∗ (bigSep (Finset.range 6) fun s => bigSep Finset.univ fun p : Fin 4 => iprop(credit (F := F) c (.rcv (order p)) s N ∗ credit (F := F) c (.cr (order p)) s 1))
    ∗ bigSep Finset.univ fun p : Fin 4 => credit (F := F) c (.rcv (order p)) 6 N)
/-- Its arrays: `x` in halves, `w`, and the result in quarters. -/
def arrays : sProp 𝕄 :=
  iprop((xHbm m c 0 ∗ xHbm m c 1) ∗ wHbm m c ∗ bigSep Finset.univ fun r : Fin 4 => oAny (F := F) c r)
/-- Its scratch, by slots. -/
def scratch : sProp 𝕄 :=
  iprop((bigSep Finset.univ fun h : Fin 2 => xAny (F := F) c h) ∗ wAny (F := F) c ∗ (bigSep Finset.univ fun r : Fin 4 => sAny (F := F) c r)
    ∗ bigSep Finset.univ fun r : Fin 4 => rAny (F := F) c r)

/-- A family over two, listed. -/
theorem halves (Φ : Fin 2 → sProp 𝕄) : bigSep Finset.univ Φ = iprop(Φ 0 ∗ Φ 1) := bigSep_univ_eq_bigSepL [0, 1] (by decide) (by decide) Φ

/-- The scratch buffers of the launch, cut into their slots. -/
theorem scratch_open : (Pipeline.scopedRest (Ix := ℕ) (Name := ℕ) (U := UU) (Lvl := ℕ) (Val := Elt F) cfg0.spec c : sProp 𝕄) ⊢ scratch (F := F) c := by
  rw [scopedRest0_eq]; unfold scratch wAny
  iintro ⟨Hx, Hw, Hs, Hr⟩
  isplitl [Hx]; · iapply (x_cut c); iexact Hx
  isplitl [Hw]; · iexact Hw
  isplitl [Hs]; · iapply (s_cut c); iexact Hs
  iapply (r_cut c); iexact Hr
/-- The slots, joined to the scratch buffers again. -/
theorem scratch_close : scratch (F := F) c ⊢ (Pipeline.scopedRest (Ix := ℕ) (Name := ℕ) (U := UU) (Lvl := ℕ) (Val := Elt F) cfg0.spec c : sProp 𝕄) := by
  rw [scopedRest0_eq]; unfold scratch wAny
  iintro ⟨Hx, Hw, Hs, Hr⟩
  isplitl [Hx]; · iapply (x_join c); iexact Hx
  isplitl [Hw]; · iexact Hw
  isplitl [Hs]; · iapply (s_join c); iexact Hs
  iapply (r_join c); iexact Hr

/-- All this is what the body asks for. -/
theorem given_intro :
    iprop((bigSep Finset.univ fun k : K => at_ (F := F) c k 0) ∗ dealt (F := F) c ∗ credits (F := F) c ∗ arrays m c ∗ scratch (F := F) c) ⊢ Given m c := by
  unfold credits arrays scratch
  iintro ⟨Hat, Htok, ⟨HcB, Hcs, Hc6⟩, ⟨⟨Hx0, Hx1⟩, Hw, Ho⟩, Hxs, Hws, Hs, Hr⟩
  ihave Hat := (kinds_open fun k => at_ (F := F) c k 0) $$ Hat
  ihave Htok := (tokens_open (F := F) c) $$ Htok
  icases Htok with ⟨⟨HtR, HtL⟩, Htw, ⟨⟨Htl00, Htl01⟩, Htl10, Htl11⟩, Htt, Hts, Htr, Hsteps⟩
  ihave Hkits := (Entails.of_eq (bigSep_sep' (Finset.range 6) (fun s => stepToks (F := F) c s)
    (fun s => bigSep Finset.univ fun p : Fin 4 => iprop(credit (F := F) c (.rcv (order p)) s N ∗ credit (F := F) c (.cr (order p)) s 1))).symm) $$ [Hsteps Hcs]
  · isplitl [Hsteps] <;> iassumption
  ihave Hkits := (show (bigSep (Finset.range 6) fun s => iprop(stepToks (F := F) c s
      ∗ bigSep Finset.univ fun p : Fin 4 => iprop(credit (F := F) c (.rcv (order p)) s N ∗ credit (F := F) c (.cr (order p)) s 1)))
    ⊢ bigSep (Finset.range 6) fun s => Kits (F := F) c s from bigSep_mono fun s _ => kits_intro c s) $$ Hkits
  unfold Given BFirst WFirst LFirst RFirst KLast
  simp only [fins, halves]
  icases Hat with ⟨HaB, HaW, ⟨HaL0, HaL1⟩, ⟨HaT0, HaT1, HaT2, HaT3⟩, ⟨HaS0, HaS1, HaS2, HaS3⟩, ⟨HaR0, HaR1, HaR2, HaR3⟩, HaC0, HaC1, HaC2, HaC3⟩
  icases Htt with ⟨Htt0, Htt1, Htt2, Htt3⟩
  icases Hts with ⟨Hts0, Hts1, Hts2, Hts3⟩
  icases Htr with ⟨Htr0, Htr1, Htr2, Htr3⟩
  icases Hc6 with ⟨Hc0, Hc2, Hc1, Hc3⟩
  icases Ho with ⟨Ho0, Ho1, Ho2, Ho3⟩
  icases Hs with ⟨Hs0, Hs1, Hs2, Hs3⟩
  icases Hr with ⟨Hr0, Hr1, Hr2, Hr3⟩
  icases Hxs with ⟨Hxs0, Hxs1⟩
  isplitl [Hr0 Hr1 Hr2 Hr3]
  · isplitl [Hr0 Hr1]
    · isplitl [Hr0]; · iexact Hr0
      iexact Hr1
    isplitl [Hr2]; · iexact Hr2
    iexact Hr3
  isplitl [HaB HcB HtL HtR]
  · isplitl [HaB]; · iexact HaB
    isplitl [HcB]; · iexact HcB
    isplitl [HtL]; · iexact HtL
    iexact HtR
  isplitl [HaW Hws Hw Htw]
  · isplitl [HaW]; · iexact HaW
    isplitl [Hws]; · iexact Hws
    isplitl [Hw]; · iexact Hw
    iexact Htw
  isplitl [HaL0 Hxs0 Hx0 Htl00 Htl01 HaL1 Hxs1 Hx1 Htl10 Htl11]
  · isplitl [HaL0 Hxs0 Hx0 Htl00 Htl01]
    · isplitl [HaL0]; · iexact HaL0
      isplitl [Hxs0]; · iexact Hxs0
      isplitl [Hx0]; · iexact Hx0
      isplitl [Htl00]; · iexact Htl00
      iexact Htl01
    · isplitl [HaL1]; · iexact HaL1
      isplitl [Hxs1]; · iexact Hxs1
      isplitl [Hx1]; · iexact Hx1
      isplitl [Htl10]; · iexact Htl10
      iexact Htl11
  isplitl [Hs0 HaS0 HaR0 HaC0 Hts0 Htr0 Hs1 HaS1 HaR1 HaC1 Hts1 Htr1 Hs2 HaS2 HaR2 HaC2 Hts2 Htr2 Hs3 HaS3 HaR3 HaC3 Hts3 Htr3]
  · isplitl [Hs0 HaS0 HaR0 HaC0 Hts0 Htr0]
    · isplitl [Hs0]; · iexact Hs0
      isplitl [HaS0 HaR0 HaC0]
      · isplitl [HaS0]; · iexact HaS0
        isplitl [HaR0]; · iexact HaR0
        iexact HaC0
      isplitl [Hts0]; · iexact Hts0
      iexact Htr0
    isplitl [Hs2 HaS2 HaR2 HaC2 Hts2 Htr2]
    · isplitl [Hs2]; · iexact Hs2
      isplitl [HaS2 HaR2 HaC2]
      · isplitl [HaS2]; · iexact HaS2
        isplitl [HaR2]; · iexact HaR2
        iexact HaC2
      isplitl [Hts2]; · iexact Hts2
      iexact Htr2
    isplitl [Hs1 HaS1 HaR1 HaC1 Hts1 Htr1]
    · isplitl [Hs1]; · iexact Hs1
      isplitl [HaS1 HaR1 HaC1]
      · isplitl [HaS1]; · iexact HaS1
        isplitl [HaR1]; · iexact HaR1
        iexact HaC1
      isplitl [Hts1]; · iexact Hts1
      iexact Htr1
    · isplitl [Hs3]; · iexact Hs3
      isplitl [HaS3 HaR3 HaC3]
      · isplitl [HaS3]; · iexact HaS3
        isplitl [HaR3]; · iexact HaR3
        iexact HaC3
      isplitl [Hts3]; · iexact Hts3
      iexact Htr3
  isplitl [Hkits]; · iexact Hkits
  isplitl [Hc0 HaT0 Htt0 Ho0]
  · isplitl [Hc0]; · iexact Hc0
    isplitl [HaT0]; · iexact HaT0
    isplitl [Htt0]; · iexact Htt0
    iexact Ho0
  isplitl [Hc2 HaT2 Htt2 Ho2]
  · isplitl [Hc2]; · iexact Hc2
    isplitl [HaT2]; · iexact HaT2
    isplitl [Htt2]; · iexact Htt2
    iexact Ho2
  isplitl [Hc1 HaT1 Htt1 Ho1]
  · isplitl [Hc1]; · iexact Hc1
    isplitl [HaT1]; · iexact HaT1
    isplitl [Htt1]; · iexact Htt1
    iexact Ho1
  · isplitl [Hc3]; · iexact Hc3
    isplitl [HaT3]; · iexact HaT3
    isplitl [Htt3]; · iexact Htt3
    iexact Ho3

/-- Where a device begins: the records of all cells and what the body asks for. -/
def Φ₀ : sProp 𝕄 := iprop(∃ κ, Ctx m κ ∗ Given m c)
/-- Where it ends: its semaphores at zero, its scratch, its arguments as they were and its result's quarters computed. -/
def Φ₁ : sProp 𝕄 :=
  iprop((bigSep Finset.univ fun k : K => semVal (cell c k) 0) ∗ scratch (F := F) c ∗ (xHbm m c 0 ∗ xHbm m c 1) ∗ wHbm m c
    ∗ bigSep Finset.univ fun r : Fin 4 => oIs c r (flat (res m r c)))

/-- A device that is through all rounds of its cells takes their semaphores back, at zero. -/
theorem close_cells (κ : Dev nD × K → ℕ) :
    iprop(Ctx m κ ∗ bigSep Finset.univ fun k : K => at_ (F := F) c k (rounds k)) ⊢ (|={Set.univ}=> bigSep Finset.univ fun k : K => semVal (cell c k) 0 : sProp 𝕄) := by
  have one (k : K) : iprop(Ctx m κ ∗ at_ (F := F) c k (rounds k)) ⊢ (|={Set.univ}=> semVal (cell c k) 0 : sProp 𝕄) := by
    iintro ⟨HC, Ha⟩
    ihave HI := (ctx_inv m κ c k) $$ HC
    iapply (Rounds.cell_close ER (Rd m) (Set.mem_univ (κ (c, k))) (fun h => h) (R := rounds k) (duties_ge m c k))
    isplitl [HI] <;> iassumption
  have all := BI.bigSep_with_persistent (S := (Finset.univ : Finset K)) (R := Ctx m κ) fun k _ => one k
  iintro H
  ihave H := all $$ H
  iapply (bigSep_fupd Finset.univ fun k : K => (semVal (cell c k) 0 : sProp 𝕄))
  iexact H

/-- What the body leaves, with its cells closed, is the launch's end state. -/
theorem left_close (κ : Dev nD × K → ℕ) : iprop(Ctx m κ ∗ Left m c) ⊢ |={Set.univ}=> Φ₁ m c := by
  unfold Left RDone LDone Φ₁ scratch
  simp only [fins, halves]
  iintro ⟨HC, ⟨⟨⟨HaS0, HaR0, HaC0, HaT0⟩, Hs0, Hr0, Ho0⟩, ⟨⟨HaS1, HaR1, HaC1, HaT1⟩, Hs1, Hr1, Ho1⟩, ⟨⟨HaS2, HaR2, HaC2, HaT2⟩, Hs2, Hr2, Ho2⟩,
    ⟨HaS3, HaR3, HaC3, HaT3⟩, Hs3, Hr3, Ho3⟩, ⟨⟨HaL0, Hxs0, Hx0⟩, HaL1, Hxs1, Hx1⟩, ⟨Hws, Hw⟩, HaB, HaW⟩
  imod (close_cells m c κ) $$ [HC HaS0 HaR0 HaC0 HaT0 HaS1 HaR1 HaC1 HaT1 HaS2 HaR2 HaC2 HaT2 HaS3 HaR3 HaC3 HaT3 HaL0 HaL1 HaB HaW] with Hsem
  · isplitl [HC]; · iexact HC
    iapply (kinds_close fun k => at_ (F := F) c k (rounds k))
    simp only [fins]
    isplitl [HaB]; · iexact HaB
    isplitl [HaW]; · iexact HaW
    isplitl [HaL0 HaL1]
    · isplitl [HaL0]; · iexact HaL0
      iexact HaL1
    isplitl [HaT0 HaT1 HaT2 HaT3]
    · isplitl [HaT0]; · iexact HaT0
      isplitl [HaT1]; · iexact HaT1
      isplitl [HaT2]; · iexact HaT2
      iexact HaT3
    isplitl [HaS0 HaS1 HaS2 HaS3]
    · isplitl [HaS0]; · iexact HaS0
      isplitl [HaS1]; · iexact HaS1
      isplitl [HaS2]; · iexact HaS2
      iexact HaS3
    isplitl [HaR0 HaR1 HaR2 HaR3]
    · isplitl [HaR0]; · iexact HaR0
      isplitl [HaR1]; · iexact HaR1
      isplitl [HaR2]; · iexact HaR2
      iexact HaR3
    · isplitl [HaC0]; · iexact HaC0
      isplitl [HaC1]; · iexact HaC1
      isplitl [HaC2]; · iexact HaC2
      iexact HaC3
  imodintro
  isplitl [Hsem]; · iexact Hsem
  isplitl [Hxs0 Hxs1 Hws Hs0 Hs1 Hs2 Hs3 Hr0 Hr1 Hr2 Hr3]
  · isplitl [Hxs0 Hxs1]
    · isplitl [Hxs0]; · iexact Hxs0
      iexact Hxs1
    isplitl [Hws]
    · unfold wAny wPts; iexists _; iexact Hws
    isplitl [Hs0 Hs1 Hs2 Hs3]
    · isplitl [Hs0]; · iexact Hs0
      isplitl [Hs1]; · iexact Hs1
      isplitl [Hs2]; · iexact Hs2
      iexact Hs3
    · isplitl [Hr0]; · iexact Hr0
      isplitl [Hr1]; · iexact Hr1
      isplitl [Hr2]; · iexact Hr2
      iexact Hr3
  isplitl [Hx0 Hx1]
  · isplitl [Hx0]; · iexact Hx0
    iexact Hx1
  isplitl [Hw]; · iexact Hw
  isplitl [Ho0]; · iexact Ho0
  isplitl [Ho1]; · iexact Ho1
  isplitl [Ho2]; · iexact Ho2
  iexact Ho3

/-- From the beginning to the end, for a program with the body's rule. -/
theorem close_body (b : Prog (PE F) PUnit)
    (hb : ∀ κ (Q : PUnit → sProp 𝕄), iprop(Ctx m κ ∗ Given m c ∗ owing (F := F) c (owe0 c)) ⊢ iprop(((Left m c ∗ owing (F := F) c 0) -∗ Q ⟨⟩) -∗ run c b Q)) :
    iprop(Φ₀ m c ∗ owing (F := F) c (owe0 c)) ⊢ run c b fun _ => iprop(Φ₁ m c ∗ owing (F := F) c 0) := by
  unfold Φ₀
  iintro ⟨⟨%κ, #HC, HG⟩, HO⟩
  iapply (wp_fupd _ _)
  iapply (hb κ _) $$ [HG HO]
  · isplitr; · iexact HC
    isplitl [HG]; · iexact HG
    iexact HO
  iintro ⟨HL, HO⟩
  imod (left_close m c κ) $$ [HL] with H
  · isplitr; · iexact HC
    iexact HL
  imodintro
  isplitl [H]; · iexact H
  iexact HO

end Device

/-! ## The launch theorem's data -/

/-- The proof data of the launch: no windows, the two assertions above, what is owed before and nothing after. -/
def dats (_ : Fin 1) (c : Dev nD) : Pipeline.Dat τ (Elt F) ℕ ℕ UU ℕ cfg0 c where
  A w := w.elim0
  after w := w.elim0
  Φ t := match t with
    | ⟨0, _⟩ => Φ₀ m c
    | ⟨_ + 1, _⟩ => Φ₁ m c
  q w := w.elim0
  owed t := match t with
    | ⟨0, _⟩ => owe0 c
    | ⟨_ + 1, _⟩ => 0

set_option maxRecDepth 65536 in
/-- The body's rule, as the launch theorem asks for it. -/
theorem body_obligation (c : Dev nD) : Pipeline.BodyObligation (dats (F := F) m 0 c) (defs₀ (F := F)) 𝒱₀ 0 Set.univ := fun t => by
  rw [fin_N0 t]
  have none (Φ : Fin cfg0.W → sProp 𝕄) : bigSep Finset.univ Φ = iprop(emp) := bigSep_empty
  rw [none, none]
  show iprop(Φ₀ m c ∗ (dats m 0 c).owesAt 0 t0_0.castSucc ∗ emp)
    ⊢ run c (bodyAt0 (F := F) t0_0) fun _ => iprop(Φ₁ m c ∗ (dats m 0 c).owesAt 0 t0_0.succ ∗ emp)
  rw [body_eq]
  have into : iprop(Φ₀ m c ∗ (dats m 0 c).owesAt 0 t0_0.castSucc ∗ emp) ⊢ iprop(Φ₀ m c ∗ owing (F := F) c (owe0 c)) := by
    unfold owing
    iintro ⟨H, ⟨%W, -, HO⟩, -⟩
    isplitl [H]; · iexact H
    iexists W; iexact HO
  have out : iprop(Φ₁ m c ∗ owing (F := F) c 0) ⊢ iprop(Φ₁ m c ∗ (dats m 0 c).owesAt 0 t0_0.succ ∗ emp) := by
    unfold owing
    iintro ⟨H, ⟨%W, HO⟩⟩
    isplitl [H]; · iexact H
    isplitl [HO]
    · iexists W; isplitr
      · ipureintro; exact fun _ _ => Or.inl trivial
      iexact HO
    · iempintro
  exact into.trans ((close_body m c body (fun κ Q => t_body m κ c)).trans (wp_mono _ _ _ fun _ => out))

/-! ## The run -/

/-- The launch element: the pipeline's and the rings'. -/
def u₀ : UU := (initOf (Pipeline.cells cfgs cellOf_inj) (Pipeline.launchToks cfgs cellOf_inj), initOf cells duties)

/-- What a device starts from, but for its scratch. -/
def start (c : Dev nD) : sProp 𝕄 :=
  iprop((∃ κ, Ctx m κ ∗ (bigSep Finset.univ fun k : K => at_ (F := F) c k 0) ∗ dealt (F := F) c) ∗ credits (F := F) c ∗ arrays m c)
/-- What a device hands back, but for its scratch: the barrier's semaphore, the arguments as they were, the computed result. -/
def finish (c : Dev nD) : sProp 𝕄 :=
  iprop(unscopedSems0 c ∗ (((c : Thread nD τ).loc main_arg0) ↦{fullShare} m ((c : Thread nD τ).loc main_arg0)) ∗ wHbm m c
    ∗ ∃ f : Buf (Elt F) ((c : Thread nD τ).loc main_v1), ⌜∀ r, oGet r f = flat (res m r c)⌝ ∗ ((c : Thread nD τ).loc main_v1) ↦{fullShare} f)

/-- What a device's memory is at the end. -/
def Ends (c : Dev nD) (s : MemSt nD τ sig (Elt F)) : Prop :=
  (s.mem ((c : Thread nD τ).loc main_arg0) = m ((c : Thread nD τ).loc main_arg0)
    ∧ s.mem ((c : Thread nD τ).loc main_arg1) = m ((c : Thread nD τ).loc main_arg1)
    ∧ ∀ r, oGet r (s.mem ((c : Thread nD τ).loc main_v1)) = flat (res m r c))
  ∧ ∀ sm : SemLoc sig, sm.isScoped .tc = false → s.sem ((c.tc : Thread nD τ), sm) = 0

section Sides
variable (ρ : Dev nD → PrngReg) (c : Dev nD)

/-- What a device gets at launch is what its run starts from. -/
theorem start_intro :
    iprop(Pipeline.unscopedRestP Pipeline.Prefetch.none cfg0.spec c (fun b => m ((c : Thread nD τ).loc b)) ∗ levAts L lv
        ∗ Pipeline.launchCred owe0 c ∗ prngReg c (ρ c) ∗ G' m c)
      ⊢ |={Set.univ}=> iprop(start m c ∗ emp) := by
  rw [Pipeline.unscopedRestP_none, unscopedRest0_eq]
  unfold start G' Ctx
  iintro ⟨⟨Hx, Hw, Ho⟩, Hlev, Hcr, -, ⟨%κ, ⟨HI, HR⟩, Hat, Htok⟩⟩
  imodintro
  isplitl
  · isplitl [Hlev HI HR Hat Htok]
    · iexists κ
      isplitl [Hlev HI HR]
      · isplitl [HI]; · iexact HI
        isplitl [Hlev] <;> iassumption
      isplitl [Hat] <;> iassumption
    isplitl [Hcr]
    · unfold credits; iapply (creds c); iexact Hcr
    unfold arrays wHbm
    isplitl [Hx]
    · iapply (x_halves m c).1; iexact Hx
    isplitl [Hw]; · iexact Hw
    iapply (o_cut c); iexact Ho
  · iempintro

/-- With its scratch, that is what the body needs. -/
theorem start_body :
    iprop(start m c ∗ Pipeline.prefHeld Pipeline.Prefetch.none c (fun _ => fullShare.right) (fun k => k.elim0) ∗ Pipeline.scopedRest cfg0.spec c)
      ⊢ (dats m 0 c).Φ 0 := by
  show _ ⊢ Φ₀ m c
  unfold start Φ₀
  iintro ⟨⟨⟨%κ, HC, Hat, Htok⟩, Hcr, Harr⟩, -, Hs⟩
  iexists κ
  isplitl [HC]; · iexact HC
  iapply (given_intro m c)
  isplitl [Hat]; · iexact Hat
  isplitl [Htok]; · iexact Htok
  isplitl [Hcr]; · iexact Hcr
  isplitl [Harr]; · iexact Harr
  iapply (scratch_open c); iexact Hs

/-- The end state of the body gives back the semaphores at zero, the scratch, and the arrays. -/
theorem body_finish :
    (dats m 0 c).Φ (Fin.last cfg0.N) ⊢ iprop(finish m c ∗ Pipeline.ownSems0 osem c ∗ Pipeline.scopedRest cfg0.spec c) := by
  show Φ₁ m c ⊢ _
  unfold Φ₁ finish
  rw [← own_sems]
  iintro ⟨⟨Hown, Hbar⟩, Hs, Hx, Hw, Ho⟩
  isplitr [Hown Hs]
  · isplitl [Hbar]; · iexact Hbar
    isplitl [Hx]; · iapply (x_halves m c).2; iexact Hx
    isplitl [Hw]; · iexact Hw
    iapply (o_join c fun r => flat (res m r c)); iexact Ho
  · isplitl [Hown]; · iexact Hown
    iapply (scratch_close c); iexact Hs

/-- From what is held at the end one reads the device's memory and semaphores. -/
theorem finish_read (s' : Phys nD τ sig (Elt F)) : iprop(finish m c ∗ emp ∗ SI s') ⊢ |={Set.univ}=> iprop(⌜Ends m c s'.mem⌝ ∗ SI s') := by
  unfold finish wHbm
  iintro ⟨⟨Hu, Hx, Hw, ⟨%f, %hf, Ho⟩⟩, -, HSI⟩
  icombine HSI Hx gives %hx
  icombine HSI Hw gives %hw
  icombine HSI Ho gives %ho
  imod (Pipeline.unscopedSems0_read (X := unscopedSems0 c) (c := c) fupd_intro s') $$ [Hu HSI] with ⟨%hu, HSI⟩
  · isplitl [Hu] <;> iassumption
  imodintro
  isplitr
  · ipureintro
    refine ⟨⟨funext fun i => hx i (Finset.mem_univ i), funext fun i => hw i (Finset.mem_univ i), fun r => ?_⟩, hu⟩
    rw [show s'.mem.mem ((c : Thread nD τ).loc main_v1) = f from funext fun i => ho i (Finset.mem_univ i)]
    exact hf r
  · iexact HSI

end Sides

set_option maxRecDepth 65536 in
/-- On eight devices, over any float values, from any memory with all semaphores at zero: every fair run of @main ends, and
    then each device's arguments are as they were, the quarters of its result are what the rings compute, and all
    semaphores are at zero. -/
theorem run_main (ρ : Dev nD → PrngReg) : θ_run defs (onTc (τ := τ) (main (F := F))) ⟨m, fun _ => 0, ρ⟩ (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ ∀ q, oGet q (r.2.mem ((c : Thread nD τ).loc main_v1)) = flat (res m q c))
    ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun c w => w.elim0)
    (hdistinct := winFacts0.arr_inj)
    (O₀ := owe0) (howed₀ := fun _ => rfl) (howedN := fun _ => rfl)
    (L := L) (lv := lv) (hL := L_of_ne) (hwaits := fun c => Pipeline.cellsWaits_intro cfgs (dats m) 0 0 c fun w s t => w.elim0)
    (G := G m) (G' := G' m) (u₀ := u₀)
    (hu₀ := by
      unfold u₀
      iintro Hu
      ihave H := (ownU_pair _ _) $$ Hu
      icases H with ⟨HP, HX⟩
      imod (fund_rings m) $$ HX with HG
      imodintro
      isplitl [HP] <;> iassumption)
    (hglob := glob m)
    (hA := fun _ w => w.elim0) (hpf := fun _ k => k.elim0)
    (X := start m) (Y := finish m) (Z := fun _ => iprop(emp))
    (hX := start_intro m ρ) (hin := start_body m) (hout := body_finish m)
    (QY := Ends m) (hY := finish_read m)
    (hQ := fun _ h hs => ⟨fun c => (h c).2.2.1, sem_eq_zero hs fun c => (h c).2.2.2⟩)

end Cert.Rings

end
-- ==== Proof.Frames.lean ====
/-
The frames: each program runs, its arguments end as they were, its semaphores end at zero.
-/
module

public import proofs.«01_k».proof.Defs
public import proofs.«01_k».proof.Proof.Gen.Kernel
public import proofs.«01_k».proof.Proof.Gen.ReferenceIdeal.Run
public import proofs.«01_k».proof.Proof.Launch
public import Idealize.ShloMosaic.Lib.Quiescent

@[expose] public section

noncomputable section

namespace Cert.Rings

open Idealize.ShloMosaic Idealize.ShloMosaic.TcCoe Idealize.SL.Sem

set_option maxRecDepth 65536 in
/-- The kernel at bit patterns: the run over any float values, taken there. -/
theorem frame_kernel : Cert.quiescent_Kernel (hKernel := Cert.Kernel.Gen.facts) := fun m ρ _ =>
  (θ_run Cert.KernelIdeal.defs _ _).mono (fun _ h => ⟨fun c => ⟨(h.1 c).1, (h.1 c).2.1⟩, h.2⟩) (run_main (F := Bits) m ρ)

set_option maxRecDepth 65536 in
/-- The kernel at extended reals. -/
theorem frame_kernelIdeal : Cert.quiescent_KernelIdeal (hKernelIdeal := Cert.KernelIdeal.Gen.facts) := fun m ρ _ =>
  (θ_run Cert.KernelIdeal.defs _ _).mono (fun _ h => ⟨fun c => ⟨(h.1 c).1, (h.1 c).2.1⟩, h.2⟩) (run_main (F := Ideal) m ρ)

/-- The reference, which has no semaphore. -/
theorem frame_referenceIdeal : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Rings

end
-- ==== Proof.Value.lean ====
/-
The value of the run at extended reals: what the rings compute is the gelu of the whole product, device by device its rows.
-/
module

public import proofs.«01_k».proof.Proof.Slots
public import Idealize.ShloMosaic.Lib.Layout
public import Idealize.ShloMosaic.Lib.MatmulPlain

@[expose] public section

noncomputable section

namespace Cert.Rings

open Cert.KernelIdeal Cert.KernelIdeal.Gen
open Idealize.ShloMosaic Idealize.ShloMosaic.TcCoe Idealize.ShloMosaic.ValueIdx Idealize.SL.Sem
open scoped BigOperators

/-- Position `i` of block `b` of eight of the rows, of the contracted positions; column `j` of quarter `r`. -/
def inBlock (b : Fin 8) (i : Fin 1024) : Fin 8192 := ⟨1024 * b.val + i.val, by omega⟩
def inQuarter (r : Fin 4) (j : Fin 1024) : Fin 4096 := ⟨1024 * r.val + j.val, by omega⟩

/-! ## Reading through the views, over any float values -/

section Reads
variable {F : FTy → Type} [FloatOps F]
variable (m : (ℓ : Loc nD τ sig) → Buf (Elt F) ℓ)

/-- A block of rows read at an index is the array at the block's offset plus that index. -/
theorem rowsOf_apply (c : Dev nD) (o : Fin 2 → ℕ) (ho : RowsFit o) (b : Fin 8) (hb : o = ![1024 * b.val, 0]) (i k : Fin 1024) :
    rowsOf m c o ho (ix2 i k) = m ((c : Thread nD τ).loc main_arg0) (ix2 (inBlock b i) k) := by
  subst hb
  refine congrArg (m ((c : Thread nD τ).loc main_arg0)) (funext fun a => Fin.ext ?_)
  match a with
  | ⟨0, _⟩ => show 1024 * b.val + 1 * i.val = 1024 * b.val + i.val; omega
  | ⟨1, _⟩ => show 0 + 1 * k.val = k.val; omega

/-- A column quarter of `w` read at an index. -/
theorem wAt_apply (c : Dev nD) (r : Fin 4) (k j : Fin 1024) :
    wAt m c r (ix2 k j) = m ((c : Thread nD τ).loc main_arg1) (ix2 k (inQuarter r j)) := by
  refine congrArg (m ((c : Thread nD τ).loc main_arg1)) (funext fun a => Fin.ext ?_)
  match a with
  | ⟨0, _⟩ => show 0 + 1 * k.val = k.val; omega
  | ⟨1, _⟩ => show 1024 * r.val + 1 * j.val = 1024 * r.val + j.val; omega

/-- A column quarter of the result read at an index. -/
theorem oGet_apply (r : Fin 4) (f : (main_v1 : Ref sig .tc).ty.Contents (Elt F)) (i j : Fin 1024) :
    oGet r f (ix2 i j) = f (ix2 i (inQuarter r j)) := by
  refine congrArg f (funext fun a => Fin.ext ?_)
  match a with
  | ⟨0, _⟩ => show 0 + 1 * i.val = i.val; omega
  | ⟨1, _⟩ => show 1024 * r.val + 1 * j.val = 1024 * r.val + j.val; omega

/-- The product that a payload holds, as a matrix. -/
def prod (a b : S1024x1024.Idx → Elt F .f32) : FVec F S1024x1024 .f32 :=
  matmul dot_S1024x1024_S1024x1024_S1024x1024_1_0_0_1_n_n none a b (constant S1024x1024 .f32 0x00000000#32)

/-- The three payloads as matrices: the product, the product added to what came, the activation of that sum. -/
theorem flat_pay0 (a : S1x1024x1024.Idx → Elt F .f32) (b : S1024x1024.Idx → Elt F .f32) : flat (F := F) (e := .f32) (pay0 a b) = prod (flat (F := F) (e := .f32) a) b :=
  stack_flat (F := F) (e := .f32) _
/-- The second of them: the product added to what came. -/
theorem flat_payAdd (a p : S1x1024x1024.Idx → Elt F .f32) (b : S1024x1024.Idx → Elt F .f32) :
    flat (F := F) (e := .f32) (payAdd a b p) = addf (flat (F := F) (e := .f32) p : FVec F S1024x1024 .f32) (prod (flat (F := F) (e := .f32) a) b) :=
  stack_flat (F := F) (e := .f32) _

/-- The block of rows that the rings reading slot `h` work on at device `c` and stage `t`. -/
def blk (h : Fin 2) (c : Dev nD) (t : ℕ) : Fin 8 :=
  match h with
  | 0 => ⟨(c.val + 15 - t) % 8, Nat.mod_lt _ (by decide)⟩
  | 1 => ⟨(c.val + 1 + t) % 8, Nat.mod_lt _ (by decide)⟩

/-- The first ring direction reads the rows of its block at each stage. -/
theorem rowsAt_o0 (c : Dev nD) : ∀ t, t < 8 → (rowsAt c t).o0 = ![1024 * ((c.val + 15 - t) % 8), 0]
  | 0, _ => (k0_off1_eq c 0).trans (by congr 2; show (c.val + 7 - 0) % 8 = (c.val + 15 - 0) % 8; omega)
  | 1, _ => (k0_off1_eq c 1).trans (by congr 2; show (c.val + 7 - 1) % 8 = (c.val + 15 - 1) % 8; omega)
  | t + 2, ht => (k0_off3_eq c (Fin.ofNat 6 t)).trans (by
      have h : (Fin.ofNat 6 t).val = t := Nat.mod_eq_of_lt (by omega)
      rw [h]; congr 3; omega)
/-- So does the second. -/
theorem rowsAt_o1 (c : Dev nD) : ∀ t, t < 8 → (rowsAt c t).o1 = ![1024 * ((c.val + 1 + t) % 8), 0]
  | 0, _ => (k0_off2_eq c 0).trans (by congr 2)
  | 1, _ => (k0_off2_eq c 1).trans (by congr 2)
  | t + 2, ht => (k0_off4_eq c (Fin.ofNat 6 t)).trans (by
      have h : (Fin.ofNat 6 t).val = t := Nat.mod_eq_of_lt (by omega)
      rw [h]; congr 3; omega)

/-- The rows at hand, read at an index. -/
theorem xAt_apply (c : Dev nD) (h : Fin 2) (t : ℕ) (ht : t < 8) (i k : Fin 1024) :
    flat (F := F) (e := .f32) (xAt m c t h) (ix2 i k) = m ((c : Thread nD τ).loc main_arg0) (ix2 (inBlock (blk h c t) i) k) := by
  match h with
  | 0 => exact (congrFun (stack_flat (F := F) (e := .f32) _) _).trans (rowsOf_apply m c _ _ ⟨(c.val + 15 - t) % 8, Nat.mod_lt _ (by decide)⟩ (rowsAt_o0 c t ht) i k)
  | 1 => exact (congrFun (stack_flat (F := F) (e := .f32) _) _).trans (rowsOf_apply m c _ _ ⟨(c.val + 1 + t) % 8, Nat.mod_lt _ (by decide)⟩ (rowsAt_o1 c t ht) i k)

/-- What comes from upstream is for the block of rows worked on next. -/
theorem blk_up (r : Fin 4) (c : Dev nD) (t : ℕ) (ht : t < 7) : blk (half r) (up r c) t = blk (half r) c (t + 1) := by
  have hc := c.isLt
  have hl : (lft c).val = (c.val + 7) % 8 := k0_dev1_eq c
  have hr : (rgt c).val = (c.val + 1) % 8 := k0_dev2_eq c
  apply Fin.ext
  match r with
  | 0 => show ((lft c).val + 15 - t) % 8 = (c.val + 15 - (t + 1)) % 8; rw [hl]; omega
  | 1 => show ((lft c).val + 15 - t) % 8 = (c.val + 15 - (t + 1)) % 8; rw [hl]; omega
  | 2 => show ((rgt c).val + 1 + t) % 8 = (c.val + 1 + (t + 1)) % 8; rw [hr]; omega
  | 3 => show ((rgt c).val + 1 + t) % 8 = (c.val + 1 + (t + 1)) % 8; rw [hr]; omega
/-- The last block worked on is the device's own. -/
theorem blk_last (r : Fin 4) (c : Dev nD) : blk (half r) c 7 = c := by
  have hc : c.val < 8 := c.isLt
  apply Fin.ext
  match r with
  | 0 => show (c.val + 15 - 7) % 8 = c.val; omega
  | 1 => show (c.val + 15 - 7) % 8 = c.val; omega
  | 2 => show (c.val + 1 + 7) % 8 = c.val; omega
  | 3 => show (c.val + 1 + 7) % 8 = c.val; omega

/-- The device `s` places upstream of `c` on ring `r`, in closed form. -/
theorem up_iterate (r : Fin 4) (c : Dev nD) (s : ℕ) :
    ((up r)^[s] c).val = match half r with | 0 => (c.val + 7 * s) % 8 | 1 => (c.val + s) % 8 := by
  have hc : c.val < 8 := c.isLt
  have hl (d : Dev nD) : (lft d).val = (d.val + 7) % 8 := k0_dev1_eq d
  have hr (d : Dev nD) : (rgt d).val = (d.val + 1) % 8 := k0_dev2_eq d
  match r with
  | 0 | 1 =>
    show (lft^[s] c).val = (c.val + 7 * s) % 8
    induction s with
    | zero => show c.val = _; omega
    | succ s ih => rw [Function.iterate_succ_apply', hl, ih]; omega
  | 2 | 3 =>
    show (rgt^[s] c).val = (c.val + s) % 8
    induction s with
    | zero => show c.val = _; omega
    | succ s ih => rw [Function.iterate_succ_apply', hr, ih]; omega

/-- Going upstream meets each device once. -/
theorem up_bijective (r : Fin 4) (c : Dev nD) : Function.Bijective fun s : Fin 8 => (up r)^[s.val] c := by
  refine (Fintype.bijective_iff_injective_and_card _).mpr ⟨fun s s' h => ?_, rfl⟩
  have h := congrArg Fin.val h
  simp only [up_iterate] at h
  revert h
  generalize half r = k
  intro h
  apply Fin.ext
  have hs := s.isLt; have hs' := s'.isLt
  match k with
  | 0 => have h : (c.val + 7 * s.val) % 8 = (c.val + 7 * s'.val) % 8 := h; omega
  | 1 => have h : (c.val + s.val) % 8 = (c.val + s'.val) % 8 := h; omega

/-- A sum over the devices: those upstream of `c` one after the other, and `c`. -/
theorem sum_upstream (f : Dev nD → EReal) (r : Fin 4) (c : Dev nD) :
    ∑ u, f u = (∑ s ∈ Finset.range 7, f ((up r)^[s] (up r c))) + f c := by
  rw [← (up_bijective r c).sum_comp f, Fin.sum_univ_eq_sum_range (fun s => f ((up r)^[s] c)) 8, Finset.sum_range_succ']
  simp only [Function.iterate_succ_apply, Function.iterate_zero, id_eq]

end Reads

/-! ## At extended reals -/

/-- The activation of one number, as the reference spells it. -/
def act (y : EReal) : EReal :=
  (Ideal.ofBits .f32 0x3F000000#32 * y)
    * (Ideal.ofBits .f32 0x3F800000#32 + Ideal.tanh (Ideal.ofBits .f32 0x3F4C422A#32 * (y + Ideal.ofBits .f32 0x3D372713#32 * (y * y * y))))

/-- The last payload as a matrix: the activation of the product added to what came. -/
theorem flat_payOut (a p : S1x1024x1024.Idx → Elt Ideal .f32) (b : S1024x1024.Idx → Elt Ideal .f32) (i : S1024x1024.Idx) :
    flat (F := Ideal) (e := .f32) (payOut a b p) i = act (addf (flat (F := Ideal) (e := .f32) p : FVec Ideal S1024x1024 .f32) (prod (flat (F := Ideal) (e := .f32) a) b) i) := by
  refine (congrFun (stack_flat (F := Ideal) (e := .f32) _) i).trans ?_
  have assoc (c y : EReal) : c * y * y * y = c * (y * y * y) := by rw [mul_assoc, mul_assoc, ← mul_assoc y y y]
  unfold act
  rw [← assoc]
  rfl

/-- A product read at an index. -/
theorem prod_apply (a b : S1024x1024.Idx → Elt Ideal .f32) (i j : Fin 1024) :
    prod a b (ix2 i j) = ∑ k : Fin 1024, (a (ix2 i k) : EReal) * b (ix2 k j) := by
  refine (Ideal.matmul_plain_apply (M := 1024) (K := 1024) (N := 1024) (φ₁ := .f32) (φ₂ := .f32) none a b _ i j).trans ?_
  have z : (constant S1024x1024 .f32 0x00000000#32 : FVec Ideal S1024x1024 .f32) (ix2 i j) = 0 := by
    show Ideal.ofBits .f32 0x00000000#32 = 0
    simp [Ideal.ofBits, Ideal.ieee]
  rw [z, zero_add]

section Whole
variable (X : (⟨2, ![8192, 8192]⟩ : Shape).Idx → EReal) (W : (⟨2, ![8192, 4096]⟩ : Shape).Idx → EReal)

/-- Device `u`'s share of one element of the whole product: the sum over its 1024 contracted positions. -/
def share (u : Fin 8) (i : Fin 8192) (j : Fin 4096) : EReal :=
  ∑ k : Fin 1024, X (ix2 i (inBlock u k)) * W (ix2 (inBlock u k) j)
/-- One element of the whole product. -/
def total (i : Fin 8192) (j : Fin 4096) : EReal := ∑ k : Fin 8192, X (ix2 i k) * W (ix2 k j)

/-- An element of the whole product is the sum of the devices' shares. -/
theorem sum_share (i : Fin 8192) (j : Fin 4096) : ∑ u : Fin 8, share X W u i j = total X W i j := by
  unfold share total
  rw [← Fintype.sum_prod_type']
  refine Fintype.sum_equiv (finProdFinEquiv (m := 8) (n := 1024)) _ (fun k : Fin 8192 => X (ix2 i k) * W (ix2 k j)) fun p => ?_
  have e : inBlock p.1 p.2 = finProdFinEquiv (m := 8) (n := 1024) p :=
    Fin.ext (show 1024 * p.1.val + p.2.val = p.2.val + 1024 * p.1.val by omega)
  rw [← e]

end Whole

section Run
variable (m : (ℓ : Loc nD τ sig) → Buf (Elt Ideal) ℓ)
variable (X : (⟨2, ![8192, 8192]⟩ : Shape).Idx → EReal) (W : (⟨2, ![8192, 4096]⟩ : Shape).Idx → EReal)

/-- Each device's arguments are its blocks of the whole arrays. -/
def Blocks : Prop := ∀ c : Dev nD,
  m ((c : Thread nD τ).loc main_arg0) = Layout.block ⟨2, ![8192, 1024]⟩ ⟨2, ![8192, 8192]⟩ 1 8 c X
    ∧ m ((c : Thread nD τ).loc main_arg1) = Layout.block ⟨2, ![1024, 4096]⟩ ⟨2, ![8192, 4096]⟩ 0 8 c W

variable {m X W} (hm : Blocks m X W)
include hm

/-- A device's product at a stage is its share of the product for the rows of that stage. -/
theorem prod_share (r : Fin 4) (c : Dev nD) (t : ℕ) (ht : t < 8) (i j : Fin 1024) :
    prod (flat (F := Ideal) (e := .f32) (xAt m c t (half r))) (wAt m c r) (ix2 i j)
      = share X W c (inBlock (blk (half r) c t) i) (inQuarter r j) := by
  rw [prod_apply]
  refine Finset.sum_congr rfl fun k _ => ?_
  rw [xAt_apply m c _ t ht, wAt_apply, (hm c).1, (hm c).2]
  congr 1
  · refine congrArg X (funext fun a => Fin.ext ?_)
    match a with
    | ⟨0, _⟩ => rfl
    | ⟨1, _⟩ => show c.val * 1024 + k.val = 1024 * c.val + k.val; omega
  · refine congrArg W (funext fun a => Fin.ext ?_)
    match a with
    | ⟨0, _⟩ => show c.val * 1024 + k.val = 1024 * c.val + k.val; omega
    | ⟨1, _⟩ => rfl

/-- The partial sum sent at stage `t` is the shares of the devices met so far. -/
theorem part_apply (r : Fin 4) (i j : Fin 1024) : ∀ (t : ℕ) (c : Dev nD), t < 7 →
    flat (F := Ideal) (e := .f32) (part m r t c) (ix2 i j) = ∑ s ∈ Finset.range (t + 1),
      share X W ((up r)^[s] c) (inBlock (blk (half r) c t) i) (inQuarter r j)
  | 0, c, _ => by
    refine (congrFun (flat_pay0 (F := Ideal) _ _) (ix2 i j)).trans ?_
    rw [prod_share hm r c 0 (by omega), Finset.sum_range_one]
    rfl
  | t + 1, c, ht => by
    refine (congrFun (flat_payAdd (F := Ideal) _ _ _) (ix2 i j)).trans ?_
    show (flat (F := Ideal) (e := .f32) (part m r t (up r c)) (ix2 i j) : EReal) + prod (F := Ideal) _ _ (ix2 i j) = _
    rw [part_apply r i j t (up r c) (by omega), prod_share hm r c (t + 1) (by omega), Finset.sum_range_succ' _ (t + 1), blk_up r c t (by omega)]
    rfl

/-- Ring `r`'s quarter of the device's result is the activation of the whole product, at the device's rows. -/
theorem res_apply (r : Fin 4) (c : Dev nD) (i j : Fin 1024) :
    flat (F := Ideal) (e := .f32) (res m r c) (ix2 i j) = act (total X W (inBlock c i) (inQuarter r j)) := by
  refine (flat_payOut _ _ _ (ix2 i j)).trans (congrArg act ?_)
  show (flat (F := Ideal) (e := .f32) (part m r 6 (up r c)) (ix2 i j) : EReal) + prod (F := Ideal) _ _ (ix2 i j) = _
  rw [part_apply hm r i j 6 (up r c) (by omega), prod_share hm r c 7 (by omega), blk_up r c 6 (by omega), blk_last r c]
  exact ((sum_share X W _ _).symm.trans (sum_upstream (fun u => share X W u (inBlock c i) (inQuarter r j)) r c)).symm

end Run

end Cert.Rings

end
-- ==== Proof.Agree.lean ====
/-
The kernel against the reference at extended reals: each device's result is its rows of the reference's.
-/
module

public import proofs.«01_k».proof.Proof.Frames
public import proofs.«01_k».proof.Proof.Value
public import Idealize.ShloMosaic.Lib.StackMember

@[expose] public section

noncomputable section

namespace Cert.Rings

open Idealize.ShloMosaic Idealize.ShloMosaic.TcCoe Idealize.ShloMosaic.ValueIdx Idealize.SL.Sem
open scoped BigOperators

section
open Cert.ReferenceIdeal Cert.ReferenceIdeal.Gen

/-- The activation of a whole array, as the reference's text composes it. -/
def actAll (y : FVec Ideal S8192x4096 .f32) : FVec Ideal S8192x4096 .f32 :=
  let k (b : BitVec 32) : FVec Ideal S8192x4096 .f32 := broadcastInDim S8192x4096 ![] bcast_S_S8192x4096 (constant (F := Ideal) S_ .f32 b)
  mulf (mulf (k 0x3F000000#32) y)
    (addf (k 0x3F800000#32) (Host.tanh (mulf (k 0x3F4C422A#32) (addf y (mulf (k 0x3D372713#32) (mulf (mulf y y) y))))))

/-- What the reference computes of the whole arrays. -/
def whole (X : S8192x8192.Idx → EReal) (W : S8192x4096.Idx → EReal) : FVec Ideal S8192x4096 .f32 :=
  actAll (Host.dotGeneral (φ₁ := .f32) (φ₂ := .f32) dot_S8192x8192_S8192x4096_S8192x4096_1_0_0_1_n_n none X W)

/-- The activation of the whole array, at one position, is the activation of the value there. -/
theorem actAll_apply (y : FVec Ideal S8192x4096 .f32) (i : S8192x4096.Idx) : actAll y i = act (y i) := rfl

/-- Element by element it is the activation of the product. -/
theorem whole_apply (X : S8192x8192.Idx → EReal) (W : S8192x4096.Idx → EReal) (i : Fin 8192) (j : Fin 4096) :
    whole X W (ix2 i j) = act (total X W i j) :=
  (actAll_apply _ _).trans (congrArg act
    (StackMember.dotGeneral_plain_apply (m := 8192) (k := 8192) (n := 4096) (φ₁ := .f32) (φ₂ := .f32) none X W i j))

end

section
open Cert.KernelIdeal

/-- The quarters of a device's result known, the result is its rows of the reference's. -/
theorem quarters_block {m : (ℓ : Loc nD τ sig) → Buf (Elt Ideal) ℓ} {X : (⟨2, ![8192, 8192]⟩ : Shape).Idx → EReal}
    {W : (⟨2, ![8192, 4096]⟩ : Shape).Idx → EReal} (hm : Blocks m X W) (c : Dev nD) (f : (main_v1 : Ref sig .tc).ty.Contents (Elt Ideal))
    (hf : ∀ r, oGet r f = flat (F := Ideal) (e := .f32) (res m r c)) :
    f = Layout.block ⟨2, ![1024, 4096]⟩ ⟨2, ![8192, 4096]⟩ 0 8 c (whole X W) := by
  refine funext fun (i : (⟨2, ![1024, 4096]⟩ : Shape).Idx) => ?_
  obtain ⟨a, b, rfl⟩ : ∃ a b, i = ix2 a b := ⟨_, _, eq_ix2 i⟩
  have hb : b = inQuarter ⟨b.val / 1024, by omega⟩ ⟨b.val % 1024, by omega⟩ := Fin.ext (by show b.val = 1024 * (b.val / 1024) + b.val % 1024; omega)
  generalize (⟨b.val / 1024, by omega⟩ : Fin 4) = r at hb
  generalize (⟨b.val % 1024, by omega⟩ : Fin 1024) = j at hb
  subst hb
  refine (oGet_apply r f a j).symm.trans ((congrFun (hf r) _).trans ((res_apply hm r c a j).trans ((whole_apply X W _ _).symm.trans ?_)))
  refine congrArg (whole X W) (funext fun x => Fin.ext ?_)
  match x with
  | ⟨0, _⟩ => show 1024 * c.val + a.val = c.val * 1024 + a.val; omega
  | ⟨1, _⟩ => rfl

end

set_option maxRecDepth 65536 in
/-- Where each device's arguments are its blocks of the reference's arrays, both programs run, and each device's result
    ends as its rows of the reference's result. -/
theorem agree : Cert.algebraic_KernelIdeal_ReferenceIdeal (hKernelIdeal := Cert.KernelIdeal.Gen.facts) (hReferenceIdeal := Cert.ReferenceIdeal.Gen.facts) := by
  intro m ρ m' ρ' _ hm
  refine ⟨whole (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · exact (θ_run Cert.KernelIdeal.defs _ _).mono
      (fun _ h c => ⟨quarters_block hm c _ (h.1 c).2.2, (h.1 c).1, (h.1 c).2.1⟩) (run_main (F := Ideal) m ρ)
  · exact (θ_run Cert.ReferenceIdeal.defs _ _).mono (fun _ h => h 0) (Cert.ReferenceIdeal.Value.run (F := Ideal) m' ρ')

end Cert.Rings

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Agree
public import Idealize.ShloMosaic.Adequacy
public import Idealize.ShloMosaic.Init

@[expose] public section

noncomputable section

namespace Cert.Proof

open Idealize.ShloMosaic Idealize.SL.Sem Cert.Kernel

/-- The five claims: the frames of the kernel at bit patterns and at extended reals and of the reference, the idealized
    kernel the kernel's own text, and the kernel's result against the reference's. -/
theorem claim : Cert.Claim :=
  ⟨Cert.Kernel.Gen.facts, Cert.KernelIdeal.Gen.facts, Cert.ReferenceIdeal.Gen.facts, Cert.Rings.frame_kernel,
    Cert.Rings.frame_kernelIdeal, Cert.Rings.frame_referenceIdeal, trivial, Cert.Rings.agree⟩

end Cert.Proof

end
